-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_steps" .f32 0x3A82F0E9#32 ((1 / 1001 : ℝ) : EReal)
  ∧ IdealRules.named_const.Statement Cert.KernelIdeal.κ "inv_eps" .f32 0x49742400#32 ((8796093022208 / 8796093 : ℝ) : EReal)

def algebraic_KernelIdeal_ReferenceIdeal_on_untied_pre_drawn [hKernelIdeal : Cert.KernelIdeal.Facts] [hReferenceIdeal : Cert.ReferenceIdeal.Facts] [hPre_drawn : Cert.Pre_drawn.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![16384]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16384]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v96) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts) (hOn_untied : Cert.On_untied.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_on_untied_pre_drawn (hKernelIdeal := hKernelIdeal) (hReferenceIdeal := hReferenceIdeal) (hPre_drawn := hPre_drawn) (hOn_untied := hOn_untied)
-- ==== On_untied.lean ====
abbrev S16384x104 : Shape := ⟨2, ![16384, 104]⟩
abbrev S16384 : Shape := ⟨1, ![16384]⟩
abbrev S1001x104x104 : Shape := ⟨3, ![1001, 104, 104]⟩
abbrev S16384x1 : Shape := ⟨2, ![16384, 1]⟩
abbrev S104 : Shape := ⟨1, ![104]⟩
abbrev S1x104 : Shape := ⟨2, ![1, 104]⟩
abbrev S_ : Shape := ⟨0, ![]⟩

class Facts : Prop where
  bcast_S16384_S16384x1_0 : S16384.BroadcastsInDim S16384x1 (![0] : Fin 1 → Fin S16384x1.rank)
  bcast_S104_S1x104_1 : S104.BroadcastsInDim S1x104 (![1] : Fin 1 → Fin S1x104.rank)
  bcast_S_S16384x1 : S_.BroadcastsInDim S16384x1 (![] : Fin 0 → Fin S16384x1.rank)
  bcast_S1x104_S16384x104_0_1 : S1x104.BroadcastsInDim S16384x104 (![0, 1] : Fin 2 → Fin S16384x104.rank)
  bcast_S16384x1_S16384x104_0_1 : S16384x1.BroadcastsInDim S16384x104 (![0, 1] : Fin 2 → Fin S16384x104.rank)
  bcast_S_S16384x104 : S_.BroadcastsInDim S16384x104 (![] : Fin 0 → Fin S16384x104.rank)
  reducesTo_S16384x104_S16384_d1 : S16384x104.ReducesTo [1] S16384
  h_S_ : 0 < S_.numel
  bcast_S_S16384 : S_.BroadcastsInDim S16384 (![] : Fin 0 → Fin S16384.rank)
  bcast_S_S1x104 : S_.BroadcastsInDim S1x104 (![] : Fin 0 → Fin S1x104.rank)
  natLt_1_32 : 1 < 32

variable [Facts]

def fn_where {F : FTy → Type} [FloatOps F] (arg0 : IVec S16384x104 1) (arg1 : FVec F S16384x1 .f32) (arg2 : FVec F S_ .f32) : FVec F S16384x104 .f32 :=
  let v0 : FVec F S_ .f32 := id arg2
  let v1 : FVec F S16384x104 .f32 := broadcastInDim S16384x104 ![0, 1] bcast_S16384x1_S16384x104_0_1 arg1
  let v2 : FVec F S16384x104 .f32 := broadcastInDim S16384x104 ![] bcast_S_S16384x104 v0
  let v3 : FVec F S16384x104 .f32 := select arg0 v1 v2
  v3

def fn_where_0 {F : FTy → Type} [FloatOps F] (arg0 : IVec S16384x1 1) (arg1 : FVec F S16384x1 .f32) (arg2 : FVec F S_ .f32) : FVec F S16384x1 .f32 :=
  let v0 : FVec F S_ .f32 := id arg2
  let v1 : FVec F S16384x1 .f32 := broadcastInDim S16384x1 ![] bcast_S_S16384x1 v0
  let v2 : FVec F S16384x1 .f32 := select arg0 arg1 v1
  v2

def fn_where_1 {F : FTy → Type} [FloatOps F] (arg0 : IVec S1x104 1) (arg1 : FVec F S16384x1 .f32) (arg2 : FVec F S_ .f32) : FVec F S16384x104 .f32 :=
  let v0 : FVec F S_ .f32 := id arg2
  let v1 : IVec S16384x104 1 := broadcastInDim S16384x104 ![0, 1] bcast_S1x104_S16384x104_0_1 arg0
  let v2 : FVec F S16384x104 .f32 := broadcastInDim S16384x104 ![0, 1] bcast_S16384x1_S16384x104_0_1 arg1
  let v3 : FVec F S16384x104 .f32 := broadcastInDim S16384x104 ![] bcast_S_S16384x104 v0
  let v4 : FVec F S16384x104 .f32 := select v1 v2 v3
  v4

def fn_clip {F : FTy → Type} [FloatOps F] (arg0 : FVec F S16384x104 .f32) (arg1 : FVec F S_ .f32) (arg2 : FVec F S_ .f32) : FVec F S16384x104 .f32 :=
  let v0 : FVec F S_ .f32 := id arg1
  let v1 : FVec F S16384x104 .f32 := broadcastInDim S16384x104 ![] bcast_S_S16384x104 v0
  let v2 : FVec F S16384x104 .f32 := maximumf v1 arg0
  let v3 : FVec F S_ .f32 := id arg2
  let v4 : FVec F S16384x104 .f32 := broadcastInDim S16384x104 ![] bcast_S_S16384x104 v3
  let v5 : FVec F S16384x104 .f32 := minimumf v4 v2
  v5

def fn_part3 {F : FTy → Type} [FloatOps F] (main_v47 : FVec F S16384x104 .f32) (main_v50 : FVec F S16384x104 .f32) (main_v53 : FVec F S16384x104 .f32) : IVec S16384 1 :=
  let main_v54 : FVec F S16384x104 .f32 := addf main_v50 main_v53
  let main_v55 : FVec F S16384x104 .f32 := addf main_v54 main_v47
  let main_cst_16 : FVec F S_ .f32 := constant S_ .f32 0xFF800000#32
  let main_v56 : FVec F S16384 .f32 := (fun x v => Host.reduce FloatOps.maximumf x v reducesTo_S16384x104_S16384_d1 h_S_) main_v55 main_cst_16
  let main_v57 : FVec F S16384x1 .f32 := broadcastInDim S16384x1 ![0] bcast_S16384_S16384x1_0 main_v56
  let main_v58 : FVec F S16384x104 .f32 := broadcastInDim S16384x104 ![0, 1] bcast_S16384x1_S16384x104_0_1 main_v57
  let main_v59 : IVec S16384x104 1 := cmpf .oeq main_v55 main_v58
  let main_v60 : IVec S16384x104 32 := (extui 32 · natLt_1_32) main_v59
  let main_c_17 : IVec S_ 32 := constantI S_ 32 0#32
  let main_v61 : IVec S16384 32 := (fun x v => Host.reduce IntOp.addi x v reducesTo_S16384x104_S16384_d1 h_S_) main_v60 main_c_17
  let main_c_18 : IVec S_ 32 := constantI S_ 32 1#32
  let main_v62 : IVec S16384 32 := broadcastInDim S16384 ![] bcast_S_S16384 main_c_18
  let main_v63 : IVec S16384 1 := cmpi .eq main_v61 main_v62
  main_v63

def fn_part2 {F : FTy → Type} [FloatOps F] (main_arg3 : FVec F S16384x104 .f32) (main_v4 : IVec S1x104 32) (main_v12 : FVec F S16384x1 .f32) (main_v23 : FVec F S16384x104 .f32) (main_v36 : FVec F S16384x104 .f32) : IVec S16384 1 :=
  let main_c_9 : IVec S_ 32 := constantI S_ 32 0#32
  let main_v37 : IVec S1x104 32 := broadcastInDim S1x104 ![] bcast_S_S1x104 main_c_9
  let main_v38 : IVec S1x104 1 := cmpi .eq main_v4 main_v37
  let main_cst_10 : FVec F S_ .f32 := constant S_ .f32 0x3F800000#32
  let main_v39 : FVec F S16384x1 .f32 := broadcastInDim S16384x1 ![] bcast_S_S16384x1 main_cst_10
  let main_v40 : FVec F S16384x1 .f32 := subf main_v39 main_v12
  let main_cst_11 : FVec F S_ .f32 := constant S_ .f32 0x00000000#32
  let main_v41 : FVec F S16384x104 .f32 := fn_where_1 (F := F) main_v38 main_v40 main_cst_11
  let main_v42 : FVec F S16384x104 .f32 := addf main_v36 main_v41
  let main_cst_12 : FVec F S_ .f32 := constant S_ .f32 0x358637BD#32
  let main_cst_13 : FVec F S_ .f32 := constant S_ .f32 0x3F800000#32
  let main_v43 : FVec F S16384x104 .f32 := fn_clip (F := F) main_arg3 main_cst_12 main_cst_13
  let main_v44 : FVec F S16384x104 .f32 := Host.log main_v43
  let main_v45 : FVec F S16384x104 .f32 := Host.negf main_v44
  let main_v46 : FVec F S16384x104 .f32 := Host.log main_v45
  let main_v47 : FVec F S16384x104 .f32 := Host.negf main_v46
  let main_cst_14 : FVec F S_ .f32 := constant S_ .f32 0x358637BD#32
  let main_v48 : FVec F S16384x104 .f32 := broadcastInDim S16384x104 ![] bcast_S_S16384x104 main_cst_14
  let main_v49 : FVec F S16384x104 .f32 := addf main_v23 main_v48
  let main_v50 : FVec F S16384x104 .f32 := Host.log main_v49
  let main_cst_15 : FVec F S_ .f32 := constant S_ .f32 0x358637BD#32
  let main_v51 : FVec F S16384x104 .f32 := broadcastInDim S16384x104 ![] bcast_S_S16384x104 main_cst_15
  let main_v52 : FVec F S16384x104 .f32 := addf main_v42 main_v51
  let main_v53 : FVec F S16384x104 .f32 := Host.log main_v52
  fn_part3 (F := F) main_v47 main_v50 main_v53

def fn_part1 {F : FTy → Type} [FloatOps F] (main_arg0 : FVec F S16384x104 .f32) (main_arg3 : FVec F S16384x104 .f32) (main_v0 : IVec S16384x1 32) (main_v4 : IVec S1x104 32) (main_v8 : FVec F S16384x1 .f32) (main_v12 : FVec F S16384x1 .f32) (main_v15 : IVec S16384x104 1) (main_v17 : FVec F S16384x1 .f32) (main_cst_4 : FVec F S_ .f32) : IVec S16384 1 :=
  let main_v18 : FVec F S16384x104 .f32 := fn_where (F := F) main_v15 main_v17 main_cst_4
  let main_c : IVec S_ 32 := constantI S_ 32 0#32
  let main_v19 : IVec S16384x1 32 := broadcastInDim S16384x1 ![] bcast_S_S16384x1 main_c
  let main_v20 : IVec S16384x1 1 := cmpi .eq main_v0 main_v19
  let main_cst_5 : FVec F S_ .f32 := constant S_ .f32 0x00000000#32
  let main_v21 : FVec F S16384x1 .f32 := fn_where_0 (F := F) main_v20 main_v8 main_cst_5
  let main_v22 : FVec F S16384x104 .f32 := broadcastInDim S16384x104 ![0, 1] bcast_S16384x1_S16384x104_0_1 main_v21
  let main_v23 : FVec F S16384x104 .f32 := addf main_v18 main_v22
  let main_cst_6 : FVec F S_ .f32 := constant S_ .f32 0xFF800000#32
  let main_v24 : FVec F S16384 .f32 := (fun x v => Host.reduce FloatOps.maximumf x v reducesTo_S16384x104_S16384_d1 h_S_) main_arg0 main_cst_6
  let main_cst_7 : FVec F S_ .f32 := constant S_ .f32 0xFF800000#32
  let main_v25 : FVec F S16384 .f32 := broadcastInDim S16384 ![] bcast_S_S16384 main_cst_7
  let main_v26 : FVec F S16384 .f32 := maximumf main_v25 main_v24
  let main_v27 : FVec F S16384x1 .f32 := broadcastInDim S16384x1 ![0] bcast_S16384_S16384x1_0 main_v26
  let main_v28 : FVec F S16384x104 .f32 := broadcastInDim S16384x104 ![0, 1] bcast_S16384x1_S16384x104_0_1 main_v27
  let main_v29 : FVec F S16384x104 .f32 := subf main_arg0 main_v28
  let main_v30 : FVec F S16384x104 .f32 := Host.exp main_v29
  let main_cst_8 : FVec F S_ .f32 := constant S_ .f32 0x00000000#32
  let main_v31 : FVec F S16384 .f32 := (fun x v => Host.reduceAdd x v reducesTo_S16384x104_S16384_d1 h_S_) main_v30 main_cst_8
  let main_v32 : FVec F S16384x1 .f32 := broadcastInDim S16384x1 ![0] bcast_S16384_S16384x1_0 main_v31
  let main_v33 : FVec F S16384x104 .f32 := broadcastInDim S16384x104 ![0, 1] bcast_S16384x1_S16384x104_0_1 main_v32
  let main_v34 : FVec F S16384x104 .f32 := Host.divf main_v30 main_v33
  let main_v35 : FVec F S16384x104 .f32 := broadcastInDim S16384x104 ![0, 1] bcast_S16384x1_S16384x104_0_1 main_v12
  let main_v36 : FVec F S16384x104 .f32 := mulf main_v35 main_v34
  fn_part2 (F := F) main_arg3 main_v4 main_v12 main_v23 main_v36

def fn {F : FTy → Type} [FloatOps F] (main_arg0 : FVec F S16384x104 .f32) (main_arg1 : IVec S16384 32) (main_arg2 : IVec S16384 32) (main_arg3 : FVec F S16384x104 .f32) (main_arg4 : FVec F S1001x104x104 .f32) (main_arg5 : FVec F S1001x104x104 .f32) : IVec S16384 1 :=
  let main_v0 : IVec S16384x1 32 := broadcastInDim S16384x1 ![0] bcast_S16384_S16384x1_0 main_arg1
  let main_v1 : FVec F S16384 .f32 := sitofp .f32 main_arg2
  let main_v2 : FVec F S16384x1 .f32 := broadcastInDim S16384x1 ![0] bcast_S16384_S16384x1_0 main_v1
  let main_v3 : IVec S104 32 := iotaInDim S104 32 0
  let main_v4 : IVec S1x104 32 := broadcastInDim S1x104 ![1] bcast_S104_S1x104_1 main_v3
  let main_cst : FVec F S_ .f32 := constant S_ .f32 0x447A8000#32
  let main_v5 : FVec F S16384x1 .f32 := broadcastInDim S16384x1 ![] bcast_S_S16384x1 main_cst
  let main_v6 : FVec F S16384x1 .f32 := subf main_v5 main_v2
  let main_cst_0 : FVec F S_ .f32 := constant S_ .f32 0x3F800000#32
  let main_v7 : FVec F S16384x1 .f32 := broadcastInDim S16384x1 ![] bcast_S_S16384x1 main_cst_0
  let main_v8 : FVec F S16384x1 .f32 := Host.divf main_v7 main_v6
  let main_cst_1 : FVec F S_ .f32 := constant S_ .f32 0x447A8000#32
  let main_v9 : FVec F S16384x1 .f32 := broadcastInDim S16384x1 ![] bcast_S_S16384x1 main_cst_1
  let main_v10 : FVec F S16384x1 .f32 := subf main_v9 main_v2
  let main_cst_2 : FVec F S_ .f32 := constant S_ .f32 0x447A4000#32
  let main_v11 : FVec F S16384x1 .f32 := broadcastInDim S16384x1 ![] bcast_S_S16384x1 main_cst_2
  let main_v12 : FVec F S16384x1 .f32 := Host.divf main_v10 main_v11
  let main_v13 : IVec S16384x104 32 := broadcastInDim S16384x104 ![0, 1] bcast_S1x104_S16384x104_0_1 main_v4
  let main_v14 : IVec S16384x104 32 := broadcastInDim S16384x104 ![0, 1] bcast_S16384x1_S16384x104_0_1 main_v0
  let main_v15 : IVec S16384x104 1 := cmpi .eq main_v13 main_v14
  let main_cst_3 : FVec F S_ .f32 := constant S_ .f32 0x3F800000#32
  let main_v16 : FVec F S16384x1 .f32 := broadcastInDim S16384x1 ![] bcast_S_S16384x1 main_cst_3
  let main_v17 : FVec F S16384x1 .f32 := subf main_v16 main_v8
  let main_cst_4 : FVec F S_ .f32 := constant S_ .f32 0x00000000#32
  fn_part1 (F := F) main_arg0 main_arg3 main_v0 main_v4 main_v8 main_v12 main_v15 main_v17 main_cst_4
-- ==== Pre_drawn.lean ====
abbrev S16384x104 : Shape := ⟨2, ![16384, 104]⟩
abbrev S16384 : Shape := ⟨1, ![16384]⟩
abbrev S1001x104x104 : Shape := ⟨3, ![1001, 104, 104]⟩
abbrev S_ : Shape := ⟨0, ![]⟩

class Facts : Prop where
  bcast_S_S16384 : S_.BroadcastsInDim S16384 (![] : Fin 0 → Fin S16384.rank)
  bcast_S_S16384x104 : S_.BroadcastsInDim S16384x104 (![] : Fin 0 → Fin S16384x104.rank)
  reducesTo_S16384x104_S16384_d1 : S16384x104.ReducesTo [1] S16384
  h_S_ : 0 < S_.numel

variable [Facts]

def fn {F : FTy → Type} [FloatOps F] (main_arg0 : FVec F S16384x104 .f32) (main_arg1 : IVec S16384 32) (main_arg2 : IVec S16384 32) (main_arg3 : FVec F S16384x104 .f32) (main_arg4 : FVec F S1001x104x104 .f32) (main_arg5 : FVec F S1001x104x104 .f32) : IVec S16384 1 × IVec S16384x104 1 × IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 104#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 32 := constantI S_ 32 2#32
  let main_v5 : IVec S16384 32 := broadcastInDim S16384 ![] bcast_S_S16384 main_c_1
  let main_v6 : IVec S16384 1 := cmpi .sge main_arg2 main_v5
  let main_v7 : IVec S16384 1 := andi main_v4 main_v6
  let main_c_2 : IVec S_ 32 := constantI S_ 32 1000#32
  let main_v8 : IVec S16384 32 := broadcastInDim S16384 ![] bcast_S_S16384 main_c_2
  let main_v9 : IVec S16384 1 := cmpi .sle main_arg2 main_v8
  let main_v10 : IVec S16384 1 := andi main_v7 main_v9
  let main_cst : FVec F S_ .f32 := constant S_ .f32 0x3F800000#32
  let main_v11 : FVec F S16384x104 .f32 := broadcastInDim S16384x104 ![] bcast_S_S16384x104 main_cst
  let main_v12 : IVec S16384x104 1 := cmpf .ole main_arg3 main_v11
  let main_cst_3 : FVec F S_ .f32 := constant S_ .f32 0xFF800000#32
  let main_v13 : FVec F S16384 .f32 := (fun x v => Host.reduce FloatOps.maximumf x v reducesTo_S16384x104_S16384_d1 h_S_) main_arg0 main_cst_3
  let main_v14 : FVec F S16384 .f32 := Host.absf main_v13
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  (main_v10, main_v12, main_v16)
-- ==== Kernel.lean ====
abbrev S16384x104 : Shape := ⟨2, ![16384, 104]⟩
abbrev S16384 : Shape := ⟨1, ![16384]⟩
abbrev S1001x104x104 : Shape := ⟨3, ![1001, 104, 104]⟩
abbrev S2048x104 : Shape := ⟨2, ![2048, 104]⟩
abbrev S2048 : Shape := ⟨1, ![2048]⟩
abbrev S1x2048 : Shape := ⟨2, ![1, 2048]⟩
abbrev S4x2048 : Shape := ⟨2, ![4, 2048]⟩
abbrev S8x2048 : Shape := ⟨2, ![8, 2048]⟩
abbrev S8x8 : Shape := ⟨2, ![8, 8]⟩
abbrev S2048x8 : Shape := ⟨2, ![2048, 8]⟩
abbrev S2048x1 : Shape := ⟨2, ![2048, 1]⟩
abbrev S104x1 : Shape := ⟨2, ![104, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x104, .f32⟩
  | .hbm, ⟨1, _⟩ => ⟨S16384, .i32⟩
  | .hbm, ⟨2, _⟩ => ⟨S16384, .i32⟩
  | .hbm, ⟨3, _⟩ => ⟨S16384x104, .f32⟩
  | .hbm, ⟨4, _⟩ => ⟨S1001x104x104, .f32⟩
  | .hbm, ⟨5, _⟩ => ⟨S1001x104x104, .f32⟩
  | .hbm, ⟨6, _⟩ => ⟨S16384, .i32⟩
  | .local _ .vmem, ⟨0, _⟩ => ⟨S2048x104, .f32⟩
  | .local _ .vmem, ⟨1, _⟩ => ⟨S2048x104, .f32⟩
  | .local _ .vmem, ⟨2, _⟩ => ⟨S2048x104, .f32⟩
  | .local _ .vmem, ⟨3, _⟩ => ⟨S2048x104, .f32⟩
  | .local _ .vmem, ⟨4, _⟩ => ⟨S2048, .i32⟩
  | .local _ .vmem, ⟨5, _⟩ => ⟨S2048, .i32⟩
  | .local _ .vmem, ⟨6, _⟩ => ⟨S2048, .i32⟩
  | .local _ .vmem, ⟨7, _⟩ => ⟨S2048, .i32⟩
  | .local _ .vmem, ⟨8, _⟩ => ⟨S2048, .i32⟩
  | .local _ .vmem, ⟨9, _⟩ => ⟨S2048, .i32⟩
  | _, _ => ⟨S16384x104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x104 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_eps" => some ((8796093022208 / 8796093 : ℝ) : EReal)
  | "inv_steps" => some ((1 / 1001 : ℝ) : EReal)
  | _ => none
-- ==== ReferenceIdeal.lean ====
abbrev S16384x104 : Shape := ⟨2, ![16384, 104]⟩
abbrev S16384 : Shape := ⟨1, ![16384]⟩
abbrev S1001x104x104 : Shape := ⟨3, ![1001, 104, 104]⟩
abbrev S1001 : Shape := ⟨1, ![1001]⟩
abbrev S_ : Shape := ⟨0, ![]⟩
abbrev S1001x1x1 : Shape := ⟨3, ![1001, 1, 1]⟩
abbrev S104 : Shape := ⟨1, ![104]⟩
abbrev S104x104 : Shape := ⟨2, ![104, 104]⟩
abbrev S1x104x104 : Shape := ⟨3, ![1, 104, 104]⟩
abbrev S1x1x104 : Shape := ⟨3, ![1, 1, 104]⟩
abbrev S1001x1x104 : Shape := ⟨3, ![1001, 1, 104]⟩
abbrev S16384x1 : Shape := ⟨2, ![16384, 1]⟩
abbrev S16384x2 : Shape := ⟨2, ![16384, 2]⟩
abbrev S16384x104x104 : Shape := ⟨3, ![16384, 104, 104]⟩

abbrev nBuf : Space → Nat
  | .hbm => 183
  | .vmem => 0
  | .smem => 0
  | _ => 0

abbrev hbmTy0_0 (i : Nat) : BufTy := match i % 128 with
  | 0 => ⟨S16384x104, .f32⟩
  | 1 => ⟨S16384, .i32⟩
  | 2 => ⟨S16384, .i32⟩
  | 3 => ⟨S16384x104, .f32⟩
  | 4 => ⟨S1001x104x104, .f32⟩
  | 5 => ⟨S1001x104x104, .f32⟩
  | 6 => ⟨S1001, .i32⟩
  | 7 => ⟨S1001, .f32⟩
  | 8 => ⟨S_, .f32⟩
  | 9 => ⟨S1001, .f32⟩
  | 10 => ⟨S1001, .f32⟩
  | 11 => ⟨S_, .f32⟩
  | 12 => ⟨S1001, .f32⟩
  | 13 => ⟨S1001, .f32⟩
  | 14 => ⟨S_, .f32⟩
  | 15 => ⟨S1001, .f32⟩
  | 16 => ⟨S1001, .f32⟩
  | 17 => ⟨S1001x1x1, .f32⟩
  | 18 => ⟨S104, .i32⟩
  | 19 => ⟨S_, .i32⟩
  | 20 => ⟨S104, .i32⟩
  | 21 => ⟨S104, .i1⟩
  | 22 => ⟨S104, .f32⟩
  | 23 => ⟨S104x104, .i32⟩
  | 24 => ⟨S104x104, .i32⟩
  | 25 => ⟨S_, .i32⟩
  | 26 => ⟨S104x104, .i32⟩
  | 27 => ⟨S104x104, .i32⟩
  | 28 => ⟨S104x104, .i1⟩
  | 29 => ⟨S104x104, .f32⟩
  | 30 => ⟨S_, .f32⟩
  | 31 => ⟨S1001x1x1, .f32⟩
  | 32 => ⟨S1001x1x1, .f32⟩
  | 33 => ⟨S1x104x104, .f32⟩
  | 34 => ⟨S1001x104x104, .f32⟩
  | 35 => ⟨S1001x104x104, .f32⟩
  | 36 => ⟨S1001x104x104, .f32⟩
  | 37 => ⟨S1x1x104, .f32⟩
  | 38 => ⟨S1001x1x104, .f32⟩
  | 39 => ⟨S1001x1x104, .f32⟩
  | 40 => ⟨S1001x1x104, .f32⟩
  | 41 => ⟨S1001x104x104, .f32⟩
  | 42 => ⟨S1001x104x104, .f32⟩
  | 43 => ⟨S1x104x104, .f32⟩
  | 44 => ⟨S104x104, .f32⟩
  | 45 => ⟨S1001x104x104, .f32⟩
  | 46 => ⟨S_, .i32⟩
  | 47 => ⟨S_, .i32⟩
  | 48 => ⟨S1001x104x104, .f32⟩
  | 49 => ⟨S_, .i32⟩
  | 50 => ⟨S_, .i32⟩
  | 51 => ⟨S104x104, .f32⟩
  | 52 => ⟨S1001x104x104, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S1x104x104, .f32⟩
  | 80 => ⟨S104x104, .f32⟩
  | 81 => ⟨S104x104, .f32⟩
  | 82 => ⟨S1x104x104, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S1001x104x104, .f32⟩
  | 92 => ⟨S_, .i32⟩
  | 93 => ⟨S_, .i32⟩
  | 94 => ⟨S1001x104x104, .f32⟩
  | 95 => ⟨S_, .i32⟩
  | 96 => ⟨S16384, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S16384x1, .i32⟩
  | 114 => ⟨S16384x2, .i32⟩
  | 115 => ⟨S16384x104, .f32⟩
  | 116 => ⟨S_, .f32⟩
  | 117 => ⟨S16384, .f32⟩
  | 118 => ⟨S_, .f32⟩
  | 119 => ⟨S16384, .f32⟩
  | 120 => ⟨S16384, .f32⟩
  | 121 => ⟨S16384x1, .f32⟩
  | 122 => ⟨S16384x104, .f32⟩
  | 123 => ⟨S16384x104, .f32⟩
  | 124 => ⟨S16384x104, .f32⟩
  | 125 => ⟨S_, .f32⟩
  | 126 => ⟨S16384, .f32⟩
  | 127 => ⟨S16384x1, .f32⟩
  | _ => ⟨S16384x104, .f32⟩

abbrev hbmTy0_1 (i : Nat) : BufTy := match i % 128 with
  | 0 => ⟨S16384x104, .f32⟩
  | 1 => ⟨S16384x104, .f32⟩
  | 2 => ⟨S_, .i32⟩
  | 3 => ⟨S16384, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S16384x104x104, .f32⟩
  | 14 => ⟨S16384x104, .f32⟩
  | 15 => ⟨S_, .f32⟩
  | 16 => ⟨S16384x104, .f32⟩
  | 17 => ⟨S16384x104, .f32⟩
  | 18 => ⟨S16384x104, .f32⟩
  | 19 => ⟨S_, .f32⟩
  | 20 => ⟨S16384x104, .f32⟩
  | 21 => ⟨S16384x104, .f32⟩
  | 22 => ⟨S16384x104, .f32⟩
  | 23 => ⟨S16384x104, .f32⟩
  | 24 => ⟨S16384x1, .i32⟩
  | 25 => ⟨S_, .i32⟩
  | 26 => ⟨S16384x1, .i32⟩
  | 27 => ⟨S16384x1, .i1⟩
  | 28 => ⟨S16384x104, .i1⟩
  | 29 => ⟨S16384x104, .f32⟩
  | 30 => ⟨S_, .f32⟩
  | 31 => ⟨S_, .f32⟩
  | 32 => ⟨S_, .f32⟩
  | 33 => ⟨S16384x104, .f32⟩
  | 34 => ⟨S16384x104, .f32⟩
  | 35 => ⟨S_, .f32⟩
  | 36 => ⟨S16384x104, .f32⟩
  | 37 => ⟨S16384x104, .f32⟩
  | 38 => ⟨S16384x104, .f32⟩
  | 39 => ⟨S16384x104, .f32⟩
  | 40 => ⟨S16384x104, .f32⟩
  | 41 => ⟨S16384x104, .f32⟩
  | 42 => ⟨S_, .i32⟩
  | 43 => ⟨S16384, .i32⟩
  | 44 => ⟨S16384, .i1⟩
  | 45 => ⟨S16384, .f32⟩
  | 46 => ⟨S16384x1, .f32⟩
  | 47 => ⟨S16384x104, .f32⟩
  | 48 => ⟨S16384x104, .f32⟩
  | 49 => ⟨S16384x104, .f32⟩
  | 50 => ⟨S16384x104, .i32⟩
  | 51 => ⟨S_, .f32⟩
  | 52 => ⟨S_, .i32⟩
  | 53 => ⟨S16384, .f32⟩
  | 54 => ⟨S16384, .i32⟩
  | _ => ⟨S16384x104, .f32⟩

abbrev hbmTy (i : Nat) : BufTy := match i / 128 with
  | 0 => hbmTy0_0 i
  | 1 => hbmTy0_1 i
  | _ => ⟨S16384x104, .f32⟩

abbrev bufTy : (tb : Table) → Fin (tcTables nBuf tb) → BufTy
  | .hbm, ⟨i, _⟩ => hbmTy i
  | _, _ => ⟨S16384x104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_c_5 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_v34_4 : Ref sig .tc := ⟨.hbm, 52, rfl⟩
abbrev main_while0c_c_27 : Ref sig .tc := ⟨.hbm, 53, rfl⟩
abbrev main_while0c_v97 : Ref sig .tc := ⟨.hbm, 54, rfl⟩
abbrev main_while0b_c_27 : Ref sig .tc := ⟨.hbm, 55, rfl⟩
abbrev main_while0b_v97 : Ref sig .tc := ⟨.hbm, 56, rfl⟩
abbrev main_while0b_v98 : Ref sig .tc := ⟨.hbm, 57, rfl⟩
abbrev main_while0b_c_28 : Ref sig .tc := ⟨.hbm, 58, rfl⟩
abbrev main_while0b_v99 : Ref sig .tc := ⟨.hbm, 59, rfl⟩
abbrev main_while0b_c_29 : Ref sig .tc := ⟨.hbm, 60, rfl⟩
abbrev main_while0b_v100 : Ref sig .tc := ⟨.hbm, 61, rfl⟩
abbrev main_while0b_v101 : Ref sig .tc := ⟨.hbm, 62, rfl⟩
abbrev main_while0b_c_30 : Ref sig .tc := ⟨.hbm, 63, rfl⟩
abbrev main_while0b_c_31 : Ref sig .tc := ⟨.hbm, 64, rfl⟩
abbrev main_while0b_v102 : Ref sig .tc := ⟨.hbm, 65, rfl⟩
abbrev main_while0b_c_32 : Ref sig .tc := ⟨.hbm, 66, rfl⟩
abbrev main_while0b_c_33 : Ref sig .tc := ⟨.hbm, 67, rfl⟩
abbrev main_while0b_v103 : Ref sig .tc := ⟨.hbm, 68, rfl⟩
abbrev main_while0b_c_34 : Ref sig .tc := ⟨.hbm, 69, rfl⟩
abbrev main_while0b_v104 : Ref sig .tc := ⟨.hbm, 70, rfl⟩
abbrev main_while0b_c_35 : Ref sig .tc := ⟨.hbm, 71, rfl⟩
abbrev main_while0b_c_36 : Ref sig .tc := ⟨.hbm, 72, rfl⟩
abbrev main_while0b_v105 : Ref sig .tc := ⟨.hbm, 73, rfl⟩
abbrev main_while0b_c_37 : Ref sig .tc := ⟨.hbm, 74, rfl⟩
abbrev main_while0b_c_38 : Ref sig .tc := ⟨.hbm, 75, rfl⟩
abbrev main_while0b_v106 : Ref sig .tc := ⟨.hbm, 76, rfl⟩
abbrev main_while0b_c_39 : Ref sig .tc := ⟨.hbm, 77, rfl⟩
abbrev main_while0b_v107 : Ref sig .tc := ⟨.hbm, 78, rfl⟩
abbrev main_while0b_v108 : Ref sig .tc := ⟨.hbm, 79, rfl⟩
abbrev main_while0b_v109 : Ref sig .tc := ⟨.hbm, 80, rfl⟩
abbrev main_while0b_v110 : Ref sig .tc := ⟨.hbm, 81, rfl⟩
abbrev main_while0b_call0_v0 : Ref sig .tc := ⟨.hbm, 82, rfl⟩
abbrev main_while0b_call0_c : Ref sig .tc := ⟨.hbm, 83, rfl⟩
abbrev main_while0b_call0_v1 : Ref sig .tc := ⟨.hbm, 84, rfl⟩
abbrev main_while0b_call0_v2 : Ref sig .tc := ⟨.hbm, 85, rfl⟩
abbrev main_while0b_call0_c_0 : Ref sig .tc := ⟨.hbm, 86, rfl⟩
abbrev main_while0b_call0_v3 : Ref sig .tc := ⟨.hbm, 87, rfl⟩
abbrev main_while0b_call0_v4 : Ref sig .tc := ⟨.hbm, 88, rfl⟩
abbrev main_while0b_call0_c_1 : Ref sig .tc := ⟨.hbm, 89, rfl⟩
abbrev main_while0b_call0_c_2 : Ref sig .tc := ⟨.hbm, 90, rfl⟩
abbrev main_while0b_v111 : Ref sig .tc := ⟨.hbm, 91, rfl⟩
abbrev main_while0b_c_40 : Ref sig .tc := ⟨.hbm, 92, rfl⟩
abbrev main_while0b_v112 : Ref sig .tc := ⟨.hbm, 93, rfl⟩
abbrev main_v35 : Ref sig .tc := ⟨.hbm, 94, rfl⟩
abbrev main_c_6 : Ref sig .tc := ⟨.hbm, 95, rfl⟩
abbrev main_v36 : Ref sig .tc := ⟨.hbm, 96, rfl⟩
abbrev main_v37 : Ref sig .tc := ⟨.hbm, 97, rfl⟩
abbrev main_c_7 : Ref sig .tc := ⟨.hbm, 98, rfl⟩
abbrev main_v38 : Ref sig .tc := ⟨.hbm, 99, rfl⟩
abbrev main_v39 : Ref sig .tc := ⟨.hbm, 100, rfl⟩
abbrev main_c_8 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_c_9 : Ref sig .tc := ⟨.hbm, 105, rfl⟩
abbrev main_v43 : Ref sig .tc := ⟨.hbm, 106, rfl⟩
abbrev main_v44 : Ref sig .tc := ⟨.hbm, 107, rfl⟩
abbrev main_c_10 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_11 : Ref sig .tc := ⟨.hbm, 116, rfl⟩
abbrev main_v52 : Ref sig .tc := ⟨.hbm, 117, rfl⟩
abbrev main_cst_12 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_13 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_c_14 : Ref sig .tc := ⟨.hbm, 130, rfl⟩
abbrev main_v63 : Ref sig .tc := ⟨.hbm, 131, rfl⟩
abbrev main_v64 : Ref sig .tc := ⟨.hbm, 132, rfl⟩
abbrev main_c_15 : Ref sig .tc := ⟨.hbm, 133, rfl⟩
abbrev main_v65 : Ref sig .tc := ⟨.hbm, 134, rfl⟩
abbrev main_v66 : Ref sig .tc := ⟨.hbm, 135, rfl⟩
abbrev main_c_16 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_17 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_18 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_c_19 : Ref sig .tc := ⟨.hbm, 153, rfl⟩
abbrev main_v81 : Ref sig .tc := ⟨.hbm, 154, rfl⟩
abbrev main_v82 : Ref sig .tc := ⟨.hbm, 155, rfl⟩
abbrev main_call1_v0 : Ref sig .tc := ⟨.hbm, 156, rfl⟩
abbrev main_v83 : Ref sig .tc := ⟨.hbm, 157, rfl⟩
abbrev main_cst_20 : Ref sig .tc := ⟨.hbm, 158, rfl⟩
abbrev main_cst_21 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_c_22 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_call3_v0 : Ref sig .tc := ⟨.hbm, 178, rfl⟩
abbrev main_call3_cst : Ref sig .tc := ⟨.hbm, 179, rfl⟩
abbrev main_call3_c : Ref sig .tc := ⟨.hbm, 180, rfl⟩
abbrev main_call3_v1_0 : Ref sig .tc := ⟨.hbm, 181, rfl⟩
abbrev main_v96 : Ref sig .tc := ⟨.hbm, 182, rfl⟩

abbrev nD : Nat := 1
abbrev τ : Topo := Topo.v7x

variable {F : FTy → Type} [FloatOps F]

abbrev main_while0_count : Scf.Loop 32 := ⟨0#32, 1000#32, 1#32⟩
-- ==== Proof.RefRun.lean ====
/- The run of the reference: its table loop is left at the loop's own fold, the operations after the loop are read back
   up to the scores and their argmax, and every argument is unchanged. -/
module

public import proofs.«01_k».proof.Proof.Gen.ReferenceIdeal.Run

@[expose] public section

set_option maxRecDepth 8192

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-! ## The arrays the reference makes, named -/

/-- `beta` of every step, one entry per step. -/
def betas : FVec F S1001x1x1 .f32 :=
  broadcastInDim S1001x1x1 ![0] bcast_S1001_S1001x1x1_0 (Host.divf (broadcastInDim S1001 ![] bcast_S_S1001 (constant S_ .f32 0x3F800000#32))
    (addf (subf (broadcastInDim S1001 ![] bcast_S_S1001 (constant S_ .f32 0x447A0000#32)) (sitofp .f32 (iotaInDim S1001 32 0)))
      (broadcastInDim S1001 ![] bcast_S_S1001 (constant S_ .f32 0x3F800000#32))))

/-- The stack of the one-step matrices. -/
def stack : FVec F S1001x104x104 .f32 :=
  addf
    (mulf (broadcastInDim S1001x104x104 ![0, 1, 2] bcast_S1x104x104_S1001x104x104_0_1_2 (broadcastInDim S1x104x104 ![1, 2] bcast_S104x104_S1x104x104_1_2
        (uitofp .f32 (cmpi .eq (addi (iotaInDim S104x104 32 0) (broadcastInDim S104x104 ![] bcast_S_S104x104 (constantI S_ 32 0#32))) (iotaInDim S104x104 32 1)))))
      (broadcastInDim S1001x104x104 ![0, 1, 2] bcast_S1001x1x1_S1001x104x104_0_1_2
        (subf (broadcastInDim S1001x1x1 ![] bcast_S_S1001x1x1 (constant S_ .f32 0x3F800000#32)) betas)))
    (broadcastInDim S1001x104x104 ![0, 1, 2] bcast_S1001x1x104_S1001x104x104_0_1_2
      (mulf (broadcastInDim S1001x1x104 ![0, 1, 2] bcast_S1x1x104_S1001x1x104_0_1_2 (broadcastInDim S1x1x104 ![2] bcast_S104_S1x1x104_2
          (uitofp .f32 (cmpi .eq (iotaInDim S104 32 0) (broadcastInDim S104 ![] bcast_S_S104 (constantI S_ 32 0#32))))))
        (broadcastInDim S1001x1x104 ![0, 1, 2] bcast_S1001x1x1_S1001x1x104_0_1_2 betas)))

/-- The first one-step matrix. -/
def first : FVec F S104x104 .f32 :=
  shapeCast S104x104 (extractStridedSlice S1x104x104 ![0, 0, 0] stack slices_S1001x104x104_S1x104x104_0_0_0) shapeCasts_S1x104x104_S104x104

/-- The times less `k`, wrapped round when negative, as a column of row indices. -/
def timeIdx (k : BitVec 32) (t : IVec S16384 32) : IVec S16384x1 32 :=
  broadcastInDim S16384x1 ![0] bcast_S16384_S16384x1_0
    (select (cmpi .slt (subi t (broadcastInDim S16384 ![] bcast_S_S16384 (constantI S_ 32 k))) (broadcastInDim S16384 ![] bcast_S_S16384 (constantI S_ 32 0#32)))
      (addi (subi t (broadcastInDim S16384 ![] bcast_S_S16384 (constantI S_ 32 k))) (broadcastInDim S16384 ![] bcast_S_S16384 (constantI S_ 32 1001#32)))
      (subi t (broadcastInDim S16384 ![] bcast_S_S16384 (constantI S_ 32 k))))

/-- The classes, wrapped round when negative, as a column of indices. -/
def classIdx (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 104#32))) x)

/-- The first factor: row `x` of the transposed one-step matrix of step `t - 1`. -/
def fact1 (T : FVec F S1001x104x104 .f32) (x t : IVec S16384 32) : FVec F S16384x104 .f32 :=
  Host.gather gather_S1001x104x104_S16384x2_S16384x104_1_01_n_n_01_1_11104
    (transpose S1001x104x104 [0, 2, 1] T transposes_S1001x104x104_S1001x104x104_0_2_1)
    (concatenate S16384x2 1 [⟨S16384x1, timeIdx 1#32 t⟩, ⟨S16384x1, classIdx x⟩] concatenates_S16384x1_S16384x1_S16384x2_d1)

/-- The exponentials of the logits less their row's largest. -/
def exps (l : FVec F S16384x104 .f32) : FVec F S16384x104 .f32 :=
  Host.exp (subf l (broadcastInDim S16384x104 ![0, 1] bcast_S16384x1_S16384x104_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x104_S16384_d1 h_S_)))))

/-- The softmax of each row. -/
def soft (l : FVec F S16384x104 .f32) : FVec F S16384x104 .f32 :=
  Host.divf (exps l) (broadcastInDim S16384x104 ![0, 1] bcast_S16384x1_S16384x104_0_1 (broadcastInDim S16384x1 ![0] bcast_S16384_S16384x1_0
    (Host.reduceAdd (exps l) (constant S_ .f32 0x00000000#32) reducesTo_S16384x104_S16384_d1 h_S_)))

/-- The second factor: the softmax through the running product of step `t - 2`. -/
def fact2 (l : FVec F S16384x104 .f32) (Q : FVec F S1001x104x104 .f32) (t : IVec S16384 32) : FVec F S16384x104 .f32 :=
  Host.dotGeneral dot_S16384x104_S16384x104x104_S16384x104_1_1_n_2_0_0 none (soft l)
    (Host.gather gather_S1001x104x104_S16384x1_S16384x104x104_12_0_n_n_0_1_1104104 Q (timeIdx 2#32 t))

/-- The small constant on every entry. -/
def eps : FVec F S16384x104 .f32 := broadcastInDim S16384x104 ![] bcast_S_S16384x104 (constant S_ .f32 0x358637BD#32)

/-- The posterior's logits. -/
def logits (T Q : FVec F S1001x104x104 .f32) (l : FVec F S16384x104 .f32) (x t : IVec S16384 32) : FVec F S16384x104 .f32 :=
  select (broadcastInDim S16384x104 ![0, 1] bcast_S16384x1_S16384x104_0_1
      (cmpi .eq (shapeCast _ t shapeCasts_S16384_S16384x1) (broadcastInDim S16384x1 ![] bcast_S_S16384x1 (constantI S_ 32 1#32))))
    l (addf (Host.log (addf (fact1 T x t) eps)) (Host.log (addf (fact2 l Q t) eps)))

/-- The Gumbel noise, put out where the time is 1. -/
def gumbel (t : IVec S16384 32) (u : FVec F S16384x104 .f32) : FVec F S16384x104 .f32 :=
  mulf (Host.negf (Host.log (Host.negf (Host.log (minimumf (broadcastInDim S16384x104 ![] bcast_S_S16384x104 (id (constant S_ .f32 0x3F800000#32)))
      (maximumf (broadcastInDim S16384x104 ![] bcast_S_S16384x104 (id (constant S_ .f32 0x358637BD#32))) u))))))
    (broadcastInDim S16384x104 ![0, 1] bcast_S16384x1_S16384x104_0_1
      (shapeCast _ (uitofp .f32 (cmpi .ne t (broadcastInDim S16384 ![] bcast_S_S16384 (constantI S_ 32 1#32)))) shapeCasts_S16384_S16384x1))

/-- The scores. -/
def score (T Q : FVec F S1001x104x104 .f32) (l : FVec F S16384x104 .f32) (x t : IVec S16384 32) (u : FVec F S16384x104 .f32) : FVec F S16384x104 .f32 :=
  addf (logits T Q l x t) (gumbel t u)

/-- The index of each row's largest score. -/
def argmax (y : FVec F S16384x104 .f32) : IVec S16384 32 :=
  fun j => (Host.argReduce reducer_argmax_f32_i32 y (iotaInDim S16384x104 32 1) (constant S_ .f32 0xFF800000#32) (constantI S_ 32 0#32)
    reducesTo_S16384x104_S16384_d1 h_S_ j).2

/-! ## The reads -/

set_option maxHeartbeats 4000000 in
/-- The result buffer after the loop, of the contents the stretches after it start from. -/
theorem post_result (V : Valuation τ sig (Elt F)) : afterL postI V (Proc.devRef .tc main_v96)
    = argmax (score (V (Proc.devRef .tc main_v30)) (V (Proc.devRef .tc main_v34_4)) (V (Proc.devRef .tc main_arg0)) (V (Proc.devRef .tc main_arg1))
        (V (Proc.devRef .tc main_arg2)) (V (Proc.devRef .tc main_arg3))) := by
  simp only [postI, afterL_cons, afterL_nil]
  after_reads_simp
  rfl

set_option maxHeartbeats 4000000 in
/-- No argument is written after the loop. -/
theorem post_args (V : Valuation τ sig (Elt F)) (r : Ref sig .tc) (hr : r ∈ [main_arg0, main_arg1, main_arg2, main_arg3, main_arg4, main_arg5]) :
    afterL postI V (Proc.devRef .tc r) = V (Proc.devRef .tc r) := by
  simp only [postI, afterL_cons, afterL_nil]
  fin_cases hr <;> after_reads_simp

/-- A buffer no trip writes holds at every trip what it held at the loop's entry. -/
theorem atK_keep (m : (ℓ : Loc nD τ sig) → Buf (Elt F) ℓ) (c : Dev nD) (r : Ref sig .tc)
    (hr : r ∈ [main_v30, main_arg0, main_arg1, main_arg2, main_arg3, main_arg4, main_arg5]) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    have h0 : r ∉ condOps_W := by revert hr r; decide +kernel
    have h1 : r ∉ while0Ops0_W := by revert hr r; decide +kernel
    have h2 : r ∉ while0Ops0_1_W := by revert hr r; decide +kernel
    have h3 : r ∉ while0Ops0_2_W := by revert hr r; decide +kernel
    rw [after_of_writes_sub while0Ops0_2 _ while0Ops0_2_writes h3, after_of_writes_sub while0Ops0_1 _ while0Ops0_1_writes h2,
      after_of_writes_sub while0Ops0 _ while0Ops0_writes h1, after_of_writes_sub condOps _ condOps_writes h0, atK_keep m c r hr k]
    rfl

/-- The condition's last run writes none of these either. -/
theorem cond_keep (V : Valuation τ sig (Elt F)) (r : Ref sig .tc)
    (hr : r ∈ [main_v30, main_arg0, main_arg1, main_arg2, main_arg3, main_arg4, main_arg5]) :
    after condOps V (Proc.devRef .tc r) = V (Proc.devRef .tc r) :=
  after_of_writes_sub condOps _ condOps_writes (by revert hr r; decide +kernel)

set_option maxHeartbeats 4000000 in
/-- The stretch before the loop: the stack of one-step matrices. -/
theorem pre_stack (V : Valuation τ sig (Elt F)) : after hostOps0 V (Proc.devRef .tc main_v30) = stack := by
  after_reads_simp
  rfl

set_option maxHeartbeats 4000000 in
/-- The stretch before the loop: what the loop carries. -/
theorem pre_carried (V : Valuation τ sig (Elt F)) :
    after hostOps0 V (Proc.devRef .tc main_v34_0) = stack ∧ after hostOps0 V (Proc.devRef .tc main_v34_2) = constantI S_ 32 1#32
      ∧ after hostOps0 V (Proc.devRef .tc main_v34_3) = first
      ∧ after hostOps0 V (Proc.devRef .tc main_v34_4) = broadcastInDim S1001x104x104 ![1, 2] bcast_S104x104_S1001x104x104_1_2 first := by
  refine ⟨?_, ?_, ?_, ?_⟩ <;> after_reads_simp <;> rfl

set_option maxHeartbeats 4000000 in
/-- The stretch before the loop writes no argument. -/
theorem pre_args (V : Valuation τ sig (Elt F)) (r : Ref sig .tc) (hr : r ∈ [main_arg0, main_arg1, main_arg2, main_arg3, main_arg4, main_arg5]) :
    after hostOps0 V (Proc.devRef .tc r) = V (Proc.devRef .tc r) := by
  fin_cases hr <;> after_reads_simp

/-- The table of the running products, as the loop leaves it. -/
def table (m : (ℓ : Loc nD τ sig) → Buf (Elt F) ℓ) (c : Dev nD) : FVec F S1001x104x104 .f32 :=
  (STEP^[1000] (entryContents preI m c)) (Proc.devRef .tc main_v34_4)

variable (m : (ℓ : Loc nD τ sig) → Buf (Elt F) ℓ) (ρ : Dev nD → PrngReg)

/-- An argument after the loop and the last test is as at the launch. -/
theorem arg_after_loop (c : Dev nD) (r : Ref sig .tc) (hr : r ∈ [main_arg0, main_arg1, main_arg2, main_arg3, main_arg4, main_arg5]) :
    after condOps (atK m 1000 c) (Proc.devRef .tc r) = m ((c.tc : Thread nD τ).loc r) :=
  (cond_keep _ r (List.mem_cons_of_mem _ hr)).trans ((atK_keep m c r (List.mem_cons_of_mem _ hr) 1000).trans (pre_args _ r hr))

/-- THE RUN: the result is the argmax of the scores over the loop's table, and every argument is unchanged. -/
theorem run : θ_run (defs (F := F)) (onTc (τ := τ) (main (F := F))) ⟨m, fun _ => 0, ρ⟩ fun r => ∀ c : Dev nD,
      r.2.mem ((c.tc : Thread nD τ).loc main_v96) = argmax (score stack (table m c) (m ((c.tc : Thread nD τ).loc main_arg0))
        (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (run_fold m ρ)
  have hs : after condOps (atK m 1000 c) (Proc.devRef .tc main_v30) = stack :=
    (cond_keep _ main_v30 List.mem_cons_self).trans ((atK_keep m c main_v30 List.mem_cons_self 1000).trans (pre_stack _))
  have ht : after condOps (atK m 1000 c) (Proc.devRef .tc main_v34_4) = table m c :=
    (cond_keeps _ main_v34_4 (by decide)).trans (atK_agree m c 1000 main_v34_4 (by decide))
  refine ⟨?_, ?_, ?_, ?_, ?_, ?_, ?_⟩
  · refine (h c main_v96 rfl).trans ((post_result _).trans ?_)
    rw [hs, ht, arg_after_loop m c main_arg0 (by decide), arg_after_loop m c main_arg1 (by decide), arg_after_loop m c main_arg2 (by decide),
      arg_after_loop m c main_arg3 (by decide)]
  · exact (h c main_arg0 rfl).trans ((post_args _ _ (by decide)).trans (arg_after_loop m c main_arg0 (by decide)))
  · exact (h c main_arg1 rfl).trans ((post_args _ _ (by decide)).trans (arg_after_loop m c main_arg1 (by decide)))
  · exact (h c main_arg2 rfl).trans ((post_args _ _ (by decide)).trans (arg_after_loop m c main_arg2 (by decide)))
  · exact (h c main_arg3 rfl).trans ((post_args _ _ (by decide)).trans (arg_after_loop m c main_arg3 (by decide)))
  · exact (h c main_arg4 rfl).trans ((post_args _ _ (by decide)).trans (arg_after_loop m c main_arg4 (by decide)))
  · exact (h c main_arg5 rfl).trans ((post_args _ _ (by decide)).trans (arg_after_loop m c main_arg5 (by decide)))

end Cert.RefRun

end
-- ==== Proof.Consts.lean ====
/- The float constants of the three programs, read as extended reals, and the elementary functions at the
   real numbers they are applied to. -/
module

public import proofs.«01_k».proof.Defs
public import Idealize.ShloMosaic.Lib.Pointwise

@[expose] public section

noncomputable section

namespace Cert.Consts

open Idealize.ShloMosaic

/-- The small constant both programs add, `float32(1e-6)`, as the real it is. -/
def r : ℝ := 8796093 / 8796093022208

theorem r_pos : 0 < r := by unfold r; norm_num
theorem r_le_one : r ≤ 1 := by unfold r; norm_num

theorem ofBits_eps : Ideal.ofBits .f32 0x358637BD#32 = ((r : ℝ) : EReal) := by
  unfold r; simp [Ideal.ofBits, Ideal.ieee, -EReal.coe_mul]; norm_num

theorem ofBits_1002 : Ideal.ofBits .f32 0x447A8000#32 = ((1002 : ℝ) : EReal) := by
  simp [Ideal.ofBits, Ideal.ieee, -EReal.coe_mul]; norm_num

theorem ofBits_1001 : Ideal.ofBits .f32 0x447A4000#32 = ((1001 : ℝ) : EReal) := by
  simp [Ideal.ofBits, Ideal.ieee, -EReal.coe_mul]; norm_num

theorem ofBits_1000 : Ideal.ofBits .f32 0x447A0000#32 = ((1000 : ℝ) : EReal) := by
  simp [Ideal.ofBits, Ideal.ieee, -EReal.coe_mul]; norm_num

theorem ofBits_one : Ideal.ofBits .f32 0x3F800000#32 = 1 := by
  have : Ideal.ofBits .f32 0x3F800000#32 = ((1 : ℝ) : EReal) := by
    simp [Ideal.ofBits, Ideal.ieee, -EReal.coe_mul]; norm_num
  rw [this, EReal.coe_one]

theorem ofBits_zero : Ideal.ofBits .f32 0x00000000#32 = 0 := by simp [Ideal.ofBits, Ideal.ieee]

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

/-- A word converted to float is its signed value. -/
theorem sitofp_eq {w : Nat} (b : BitVec w) : (FloatOps.sitofp .f32 b : Ideal .f32) = ((b.toInt : ℝ) : EReal) := rfl

/-- A word of a small natural converted to float is that natural. -/
theorem sitofp_ofNat (n : ℕ) (h : n < 2 ^ 31) :
    (FloatOps.sitofp .f32 (BitVec.ofNat 32 n) : Ideal .f32) = ((n : ℝ) : EReal) := by
  rw [sitofp_eq]
  have : (BitVec.ofNat 32 n).toInt = (n : ℤ) := by
    rw [BitVec.toInt_eq_toNat_cond, BitVec.toNat_ofNat]; omega
  rw [this]; simp

/-- Two words of small naturals compare equal exactly when the naturals are. -/
theorem cmpi_ofNat (m n : ℕ) (hm : m < 2 ^ 32) (hn : n < 2 ^ 32) :
    IntOp.cmpi .eq (BitVec.ofNat 32 m) (BitVec.ofNat 32 n) = if m = n then 1#1 else 0#1 := by
  have : (BitVec.ofNat 32 m = BitVec.ofNat 32 n) ↔ m = n := by
    constructor
    · intro h
      have h' := congrArg BitVec.toNat h
      rwa [BitVec.toNat_ofNat, BitVec.toNat_ofNat, Nat.mod_eq_of_lt hm, Nat.mod_eq_of_lt hn] at h'
    · rintro rfl; rfl
  unfold IntOp.cmpi
  by_cases h : m = n
  · subst h; simp
  · have h2 : (BitVec.ofNat 32 m == BitVec.ofNat 32 n) = false := by
      rw [beq_eq_false_iff_ne]; exact fun e => h (this.1 e)
    rw [if_neg h]
    show BitVec.ofBool (BitVec.ofNat 32 m == BitVec.ofNat 32 n) = 0#1
    rw [h2]; rfl

/-- Two words of small naturals compare unequal exactly when the naturals are. -/
theorem cmpi_ne_ofNat (m n : ℕ) (hm : m < 2 ^ 32) (hn : n < 2 ^ 32) (h : m ≠ n) :
    IntOp.cmpi .ne (BitVec.ofNat 32 m) (BitVec.ofNat 32 n) = 1#1 := by
  have h2 : (BitVec.ofNat 32 m != BitVec.ofNat 32 n) = true := by
    rw [bne_iff_ne]
    intro e
    have h' := congrArg BitVec.toNat e
    rw [BitVec.toNat_ofNat, BitVec.toNat_ofNat, Nat.mod_eq_of_lt hm, Nat.mod_eq_of_lt hn] at h'
    exact h h'
  show BitVec.ofBool (BitVec.ofNat 32 m != BitVec.ofNat 32 n) = 1#1
  rw [h2]; rfl

/-- The difference of two words of naturals, where it is a natural. -/
theorem subi_ofNat (m n : ℕ) (hm : m < 2 ^ 32) (h : n ≤ m) : IntOp.subi (BitVec.ofNat 32 m) (BitVec.ofNat 32 n) = BitVec.ofNat 32 (m - n) := by
  show BitVec.ofNat 32 m - BitVec.ofNat 32 n = _
  apply BitVec.eq_of_toNat_eq
  rw [BitVec.toNat_sub, BitVec.toNat_ofNat, BitVec.toNat_ofNat, BitVec.toNat_ofNat]
  omega

/-- An index that is not negative is not wrapped round. -/
theorem wrap_ofNat (m : ℕ) (d : BitVec 32) (hm : m < 2 ^ 31) :
    Scalar.select (IntOp.cmpi .slt (BitVec.ofNat 32 m) 0#32) d (BitVec.ofNat 32 m) = BitVec.ofNat 32 m := by
  have h : (BitVec.ofNat 32 m).slt 0#32 = false := by
    rw [BitVec.slt, decide_eq_false_iff_not, BitVec.toInt_eq_toNat_cond, BitVec.toNat_ofNat]
    have : (0#32 : BitVec 32).toInt = 0 := rfl
    omega
  have h' : IntOp.cmpi .slt (BitVec.ofNat 32 m) 0#32 = 0#1 := by
    show BitVec.ofBool ((BitVec.ofNat 32 m).slt 0#32) = 0#1
    rw [h]; rfl
  rw [h']; rfl

theorem uitofp_ite (p : Prop) [Decidable p] :
    (FloatOps.uitofp .f32 (if p then 1#1 else 0#1) : Ideal .f32) = (((if p then 1 else 0 : ℝ)) : EReal) := by
  show (((if p then 1#1 else 0#1 : BitVec 1).toNat : ℝ) : EReal) = _
  split <;> simp

theorem sitofp_setWidth_ite (p : Prop) [Decidable p] :
    (FloatOps.sitofp .f32 (BitVec.setWidth 32 (if p then 1#1 else 0#1)) : Ideal .f32) = (((if p then 1 else 0 : ℝ)) : EReal) := by
  rw [sitofp_eq]
  split <;> simp <;> decide

theorem select_ite {α : Type} (p : Prop) [Decidable p] (a b : α) :
    Scalar.select (if p then 1#1 else 0#1) a b = if p then a else b := by
  split <;> rfl

/-- Truncating the float of a small natural gives its word. -/
theorem fptosi_nat (n : ℕ) (h : n < 1000) : FloatOps.fptosi (F := Ideal) (φ := .f32) 32 ((n : ℝ) : EReal) = BitVec.ofNat 32 n := by
  show Ideal.fptosi 32 ((n : ℝ) : EReal) = _
  rw [Ideal.fptosi, Ideal.toIntClamped_coe]
  have h0 : (0 : ℝ) ≤ n := Nat.cast_nonneg n
  rw [if_pos h0, Int.floor_natCast]
  have : max (-((2 ^ (32 - 1) : ℕ) : ℤ)) (min (((2 ^ (32 - 1) : ℕ) : ℤ) - 1) (n : ℤ)) = (n : ℤ) := by
    norm_num
    omega
  rw [this, BitVec.ofInt_natCast]

theorem log_of_pos {x : ℝ} (h : 0 < x) : Ideal.log (x : EReal) = ((Real.log x : ℝ) : EReal) := by
  rw [Ideal.log_coe, if_neg (not_le.2 h)]

/-- Division by a nonzero real, on reals. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- A fold of `max` from `-∞` is the supremum. -/
theorem fold_max_eq_sup {n : ℕ} (f : Fin n → EReal) : Finset.univ.fold max ⊥ f = Finset.univ.sup f := by
  rfl

/-- A sum of reals, taken among the extended reals. -/
theorem coe_sum {n : ℕ} (f : Fin n → ℝ) : ∑ k, ((f k : ℝ) : EReal) = ((∑ k, f k : ℝ) : EReal) := by
  induction (Finset.univ : Finset (Fin n)) using Finset.induction_on with
  | empty => simp
  | insert a s ha ih => rw [Finset.sum_insert ha, Finset.sum_insert ha, ih, EReal.coe_add]

/-- `inv_steps` names `1/1001`. -/
theorem inv_steps : Named.named (F := Ideal) Cert.KernelIdeal.κ "inv_steps" (φ := .f32) 0x3A82F0E9#32 = (((1 / 1001 : ℝ)) : EReal) :=
  IdealRules.named_const.ideal_named_scalar _ _ _ _ rfl

/-- `inv_eps` names the reciprocal of the small constant. -/
theorem inv_eps : Named.named (F := Ideal) Cert.KernelIdeal.κ "inv_eps" (φ := .f32) 0x49742400#32 = (((8796093022208 / 8796093 : ℝ)) : EReal) :=
  IdealRules.named_const.ideal_named_scalar _ _ _ _ rfl

end Cert.Consts

end
-- ==== Proof.Pick.lean ====
/- The class that is picked, where one class has a score above all others: the reference's argmax is that class, the
   kernel's sum of the indices of the largest scores is, and a count of the largest scores that is one says that there is
   such a class. -/
module

public import proofs.«01_k».proof.Proof.RefRun
public import proofs.«01_k».proof.Proof.Consts
public import Idealize.ShloMosaic.Lib.Pointwise
public import Idealize.ShloMosaic.Lib.IndicatorCount

@[expose] public section

noncomputable section

namespace Cert.Pick

open Idealize.ShloMosaic Cert.Consts
open Cert.ReferenceIdeal Cert.ReferenceIdeal.Gen

/-- Class `k` has the one largest score. -/
def Best (y : Fin 104 → EReal) (k : Fin 104) : Prop := ∀ c, c ≠ k → y c < y k

theorem Best.le {y : Fin 104 → EReal} {k : Fin 104} (h : Best y k) (c : Fin 104) : y c ≤ y k := by
  by_cases e : c = k
  · rw [e]
  · exact (h c e).le

theorem Best.eq_max {y : Fin 104 → EReal} {k : Fin 104} (h : Best y k) (c : Fin 104) :
    y c = Finset.univ.fold max ⊥ y ↔ c = k := by
  have hm : Finset.univ.fold max ⊥ y = y k := by
    rw [fold_max_eq_sup]
    exact le_antisymm (Finset.sup_le fun c _ => h.le c) (Finset.le_sup (Finset.mem_univ k))
  rw [hm]
  constructor
  · intro e
    by_contra hn
    exact absurd e (h c hn).ne
  · rintro rfl; rfl

/-- A count of one says which class is best. -/
theorem best_of_count {y : Fin 104 → EReal}
    (h : Finset.univ.fold IntOp.addi 0#32 (fun k => BitVec.setWidth 32 (BitVec.ofBool (decide (y k = Finset.univ.fold max ⊥ y)))) = 1#32) :
    ∃ k, Best y k := by
  rw [IndicatorCount.fold_addi_setWidth_eq_card] at h
  have hle : (Finset.univ.filter fun k : Fin 104 => BitVec.ofBool (decide (y k = Finset.univ.fold max ⊥ y)) = 1#1).card ≤ 104 := by
    simpa using Finset.card_filter_le (Finset.univ : Finset (Fin 104)) _
  have h1 : (Finset.univ.filter fun k : Fin 104 => BitVec.ofBool (decide (y k = Finset.univ.fold max ⊥ y)) = 1#1).card = 1 := by
    have := congrArg BitVec.toNat h
    rw [BitVec.toNat_ofNat] at this
    have h2 : (1#32 : BitVec 32).toNat = 1 := rfl
    omega
  obtain ⟨k, hk⟩ := Finset.card_eq_one.1 h1
  have hbit : ∀ p : Prop, [Decidable p] → (BitVec.ofBool (decide p) = 1#1 ↔ p) := by
    intro p _; by_cases hp : p <;> simp [hp]
  have hmem : ∀ c, y c = Finset.univ.fold max ⊥ y ↔ c = k := by
    intro c
    have := congrArg (c ∈ ·) hk
    simp only [Finset.mem_filter, Finset.mem_univ, true_and, hbit, Finset.mem_singleton] at this
    exact this.to_iff
  have hk' : y k = Finset.univ.fold max ⊥ y := (hmem k).2 rfl
  refine ⟨k, fun c hc => ?_⟩
  have hle : y c ≤ y k := by
    rw [hk', fold_max_eq_sup]; exact Finset.le_sup (Finset.mem_univ c)
  exact lt_of_le_of_ne hle fun e => hc ((hmem c).1 (e.trans hk'))

/-- The kernel's sum of the indices of the largest scores. -/
theorem sum_best {y : Fin 104 → EReal} {k : Fin 104} (h : Best y k) :
    ∑ c : Fin 104, (FloatOps.sitofp .f32 (BitVec.setWidth 32 (BitVec.ofBool (decide (y c = Finset.univ.fold max ⊥ y)))) : Ideal .f32)
        * (FloatOps.sitofp .f32 (BitVec.ofNat 32 c.val) : Ideal .f32) = ((k.val : ℝ) : EReal) := by
  have e : ∀ c : Fin 104, (FloatOps.sitofp .f32 (BitVec.setWidth 32 (BitVec.ofBool (decide (y c = Finset.univ.fold max ⊥ y)))) : Ideal .f32)
        * (FloatOps.sitofp .f32 (BitVec.ofNat 32 c.val) : Ideal .f32) = (((if c = k then (c.val : ℝ) else 0) : ℝ) : EReal) := by
    intro c
    rw [sitofp_ofNat _ (by omega)]
    by_cases hc : c = k
    · rw [decide_eq_true ((h.eq_max c).2 hc), if_pos hc]
      show (((1#32 : BitVec 32).toInt : ℝ) : EReal) * _ = _
      simp
    · rw [decide_eq_false (fun e => hc ((h.eq_max c).1 e)), if_neg hc]
      show (((0#32 : BitVec 32).toInt : ℝ) : EReal) * _ = _
      simp
  rw [Finset.sum_congr rfl fun c _ => e c, coe_sum]
  simp

/-- The reference's argmax step keeps the pair of the larger value. -/
theorem reducer_left {a b : EReal × BitVec 32} (h : b.1 < a.1) : reducer_argmax_f32_i32 (F := Ideal) a b = a := by
  have e1 : Ideal.cmp .ogt a.1 b.1 = 1#1 := by simp [Ideal.cmp, h]
  have e2 : Ideal.cmp .une a.1 a.1 = 0#1 := by simp [Ideal.cmp]
  have e3 : Ideal.cmp .oeq a.1 b.1 = 0#1 := by simp [Ideal.cmp, h.ne']
  show (Scalar.select (IntOp.ori (Ideal.cmp .ogt a.1 b.1) (Ideal.cmp .une a.1 a.1)) a.1 b.1, Scalar.select (IntOp.ori (IntOp.ori (Ideal.cmp .ogt a.1 b.1) (Ideal.cmp .une a.1 a.1))
    (IntOp.andi (Ideal.cmp .oeq a.1 b.1) (IntOp.cmpi .slt a.2 b.2))) a.2 b.2) = a
  rw [e1, e2, e3]
  generalize IntOp.cmpi .slt a.2 b.2 = z
  have hz : IntOp.ori (IntOp.ori 1#1 0#1) (IntOp.andi 0#1 z) = 1#1 := by revert z; decide
  rw [hz]
  rfl

theorem reducer_right {a b : EReal × BitVec 32} (h : a.1 < b.1) : reducer_argmax_f32_i32 (F := Ideal) a b = b := by
  have e1 : Ideal.cmp .ogt a.1 b.1 = 0#1 := by
    show BitVec.ofBool (decide (b.1 < a.1)) = 0#1
    rw [decide_eq_false (not_lt.2 h.le)]; rfl
  have e2 : Ideal.cmp .une a.1 a.1 = 0#1 := by simp [Ideal.cmp]
  have e3 : Ideal.cmp .oeq a.1 b.1 = 0#1 := by simp [Ideal.cmp, h.ne]
  show (Scalar.select (IntOp.ori (Ideal.cmp .ogt a.1 b.1) (Ideal.cmp .une a.1 a.1)) a.1 b.1, Scalar.select (IntOp.ori (IntOp.ori (Ideal.cmp .ogt a.1 b.1) (Ideal.cmp .une a.1 a.1))
    (IntOp.andi (Ideal.cmp .oeq a.1 b.1) (IntOp.cmpi .slt a.2 b.2))) a.2 b.2) = b
  rw [e1, e2, e3]
  generalize IntOp.cmpi .slt a.2 b.2 = z
  have hz : IntOp.ori (IntOp.ori 0#1 0#1) (IntOp.andi 0#1 z) = 0#1 := by revert z; decide
  rw [hz]
  rfl

theorem reducer_self (a : EReal × BitVec 32) : reducer_argmax_f32_i32 (F := Ideal) a a = a := by
  have hs : ∀ {α : Type} (z : BitVec 1) (v : α), Scalar.select z v v = v := fun z v => by unfold Scalar.select; split <;> rfl
  show (Scalar.select _ a.1 a.1, Scalar.select _ a.2 a.2) = a
  rw [hs, hs]

theorem reducer_lt {a b p : EReal × BitVec 32} (ha : a.1 < p.1) (hb : b.1 < p.1) : (reducer_argmax_f32_i32 (F := Ideal) a b).1 < p.1 := by
  show Scalar.select _ a.1 b.1 < p.1
  unfold Scalar.select
  split
  · exact ha
  · exact hb

/-- A fold of the argmax step over a list in which one pair has the largest value ends at that pair. -/
theorem foldl_best (p : EReal × BitVec 32) : ∀ (l : List (EReal × BitVec 32)) (a : EReal × BitVec 32),
    (∀ q ∈ l, q = p ∨ q.1 < p.1) → (a = p ∨ a.1 < p.1) → (a = p ∨ p ∈ l) → l.foldl (reducer_argmax_f32_i32 (F := Ideal)) a = p
  | [], a, _, _, h => by
    rcases h with h | h
    · exact h
    · exact absurd h List.not_mem_nil
  | q :: l, a, hl, ha, hm => by
    have hl' : ∀ x ∈ l, x = p ∨ x.1 < p.1 := fun x hx => hl x (List.mem_cons_of_mem _ hx)
    rw [List.foldl_cons]
    rcases hl q List.mem_cons_self with hq | hq
    · subst hq
      have : reducer_argmax_f32_i32 (F := Ideal) a q = q := by
        rcases ha with ha | ha
        · rw [ha]; exact reducer_self q
        · exact reducer_right ha
      rw [this]
      exact foldl_best q l q hl' (.inl rfl) (.inl rfl)
    · rcases ha with ha | ha
      · subst ha
        rw [reducer_left hq]
        exact foldl_best a l a hl' (.inl rfl) (.inl rfl)
      · refine foldl_best p l _ hl' (.inr (reducer_lt ha hq)) (.inr ?_)
        rcases hm with hm | hm
        · exact absurd (congrArg Prod.fst hm) ha.ne
        · rcases List.mem_cons.1 hm with hm | hm
          · exact absurd (congrArg Prod.fst hm).symm hq.ne
          · exact hm

theorem drop_ix2 (b : Fin 16384) (c : Fin 104) : reducesTo_S16384x104_S16384_d1.drop (ix2 b c) = ix1 b := by
  funext a
  apply Fin.ext
  match a with
  | ⟨0, _⟩ => rfl

/-- The indices of a host's argmax over any shape. -/
def argOf {s t u : Shape} {axes : List (Fin s.rank)} (x : FVec Ideal s .f32) (y : IVec s 32) (ix : FVec Ideal u .f32) (iy : IVec u 32)
    (h : s.ReducesTo axes t) (hu : 0 < u.numel) : IVec t 32 :=
  fun j => (Host.argReduce (reducer_argmax_f32_i32 (F := Ideal)) x y ix iy h hu j).2

/-- A host's argmax over any shape, where one element of the fiber is above all the others of it. -/
theorem arg_best {s t u : Shape} {axes : List (Fin s.rank)} (x : FVec Ideal s .f32) (y : IVec s 32) (ix : FVec Ideal u .f32) (iy : IVec u 32)
    (h : s.ReducesTo axes t) (hu : 0 < u.numel) (j : t.Idx) (i₀ : s.Idx) (hd : h.drop i₀ = j)
    (hb : ∀ i, h.drop i = j → i = i₀ ∨ x i < x i₀) (hx : ix (Shape.Idx.first hu) < x i₀) :
    argOf x y ix iy h hu j = y i₀ := by
  unfold argOf
  rw [Ideal.argReduce_eq_reduce2, Host.reduce2_eq_foldl_fiber, foldl_best (x i₀, y i₀)]
  · intro q hq
    unfold Host.argReduceFiber at hq
    obtain ⟨n, hn, rfl⟩ := List.mem_map.1 hq
    rcases hb _ (of_decide_eq_true (List.mem_filter.1 hn).2) with e | e
    · rw [e]; exact .inl rfl
    · exact .inr e
  · exact .inr hx
  · refine .inr ?_
    unfold Host.argReduceFiber
    refine List.mem_map.2 ⟨s.rowMajor i₀, List.mem_filter.2 ⟨List.mem_finRange _, ?_⟩, ?_⟩
    · rw [Equiv.symm_apply_apply]; exact decide_eq_true hd
    · rw [Equiv.symm_apply_apply]

theorem row_le (y : FVec Ideal S16384x104 .f32) (b : Fin 16384) {k : Fin 104} (h : Best (fun c => y (ix2 b c)) k) (i : S16384x104.Idx)
    (hi : reducesTo_S16384x104_S16384_d1.drop i = ix1 b) : i = ix2 b k ∨ y i < y (ix2 b k) := by
  obtain ⟨b', c', e⟩ : ∃ (b' : Fin 16384) (c' : Fin 104), i = ix2 b' c' := ⟨_, _, eq_ix2 i⟩
  subst e
  rw [drop_ix2] at hi
  have hb : b' = b := congrFun hi 0
  subst hb
  by_cases hc : c' = k
  · subst hc; exact .inl rfl
  · exact .inr (h c' hc)

theorem start_lt {v : EReal} (h : v ≠ ⊥) : (constant S_ .f32 0xFF800000#32 : FVec Ideal S_ .f32) (Shape.Idx.first h_S_) < v := by
  show Ideal.ofBits .f32 0xFF800000#32 < v
  rw [ofBits_negInf]
  exact bot_lt_iff_ne_bot.2 h

theorem argmax_eq (y : FVec Ideal S16384x104 .f32) : RefRun.argmax y
    = argOf y (iotaInDim S16384x104 32 1) (constant S_ .f32 0xFF800000#32) (constantI S_ 32 0#32) reducesTo_S16384x104_S16384_d1 h_S_ := rfl

/-- The reference's argmax of a row one class of which is best. -/
theorem argmax_best (y : FVec Ideal S16384x104 .f32) (b : Fin 16384) {k : Fin 104} (h : Best (fun c => y (ix2 b c)) k)
    (hbot : y (ix2 b k) ≠ ⊥) : RefRun.argmax y (ix1 b) = BitVec.ofNat 32 k.val :=
  (congrFun (argmax_eq y) (ix1 b)).trans ((arg_best y _ _ _ _ _ (ix1 b) (ix2 b k) (drop_ix2 b k) (row_le y b h) (start_lt hbot)).trans rfl)

end Cert.Pick

end
-- ==== Proof.Tables.lean ====
/- The two tables the reference builds, entry by entry: the one-step matrices, and their running products as the loop
   leaves them. -/
module

public import proofs.«01_k».proof.Proof.RefRun
public import proofs.«01_k».proof.Proof.Consts
public import Idealize.ShloMosaic.Lib.Pointwise
public import Idealize.ShloMosaic.Lib.DynamicIndex
public import Idealize.ShloMosaic.Lib.WordCmp

@[expose] public section

set_option maxRecDepth 16384

noncomputable section

namespace Cert.Tables

open Idealize.ShloMosaic Idealize.ShloMosaic.TcCoe Idealize.SL.Sem Idealize.ShloMosaic.StableHlo
open Cert.ReferenceIdeal Cert.ReferenceIdeal.Gen Cert.ReferenceIdeal.Value Cert.Consts

/-- The matrix with `a` on the diagonal and `1 - a` more in column 0. -/
def mat (a : ℝ) (i c : Fin 104) : ℝ := (if i = c then a else 0) + (if c = 0 then 1 - a else 0)

/-- These matrices multiply as their diagonals do. -/
theorem mat_mul (a b : ℝ) (i c : Fin 104) : ∑ k, mat a i k * mat b k c = mat (a * b) i c := by
  have h : ∀ k, mat a i k * mat b k c = (if i = k then a * mat b k c else 0) + (if k = 0 then (1 - a) * mat b k c else 0) := by
    intro k; rw [mat, add_mul, ite_mul, ite_mul, zero_mul]
  simp only [h, Finset.sum_add_distrib, Finset.sum_ite_eq, Finset.sum_ite_eq', Finset.mem_univ, if_true]
  unfold mat
  by_cases h1 : c = 0
  · subst h1
    simp only [if_true]
    split_ifs <;> ring
  · rw [if_neg (fun e : 0 = c => h1 e.symm)]
    simp only [if_neg h1]
    split_ifs <;> ring

/-- The diagonal of the one-step matrix `n`. -/
def diag (n : ℕ) : ℝ := 1 - 1 / (1001 - n)

/-- The diagonal of the running product `n`. -/
def run (n : ℕ) : ℝ := (1000 - n) / 1001

theorem run_succ (n : ℕ) (h : n + 1 ≤ 1000) : run n * diag (n + 1) = run (n + 1) := by
  have : ((n : ℝ) + 1) ≤ 1000 := by exact_mod_cast h
  unfold run diag
  push_cast
  have h1 : (1001 : ℝ) - (n + 1) ≠ 0 := by linarith
  field_simp
  ring

theorem run_zero : diag 0 = run 0 := by unfold run diag; norm_num

set_option maxHeartbeats 1000000 in
/-- An entry of the stack of one-step matrices. -/
theorem stack_at (n : Fin 1001) (i c : Fin 104) : RefRun.stack (F := Ideal) (ix3 n i c) = ((mat (diag n) i c : ℝ) : EReal) := by
  have hn : (n : ℝ) ≤ 1000 := by exact_mod_cast Nat.lt_succ_iff.1 n.isLt
  pointwise [RefRun.stack, RefRun.betas]
  have h0 : IntOp.addi (BitVec.ofNat 32 i.val) 0#32 = BitVec.ofNat 32 i.val := by simp [IntOp.addi]
  have hz : (0#32 : BitVec 32) = BitVec.ofNat 32 0 := rfl
  rw [h0, hz, cmpi_ofNat _ _ (by omega) (by omega), cmpi_ofNat _ _ (by omega) (by omega), uitofp_ite, uitofp_ite,
    sitofp_ofNat _ (by omega), ofBits_1000]
  have e1 : (((1000 : ℝ) : EReal) - ((n.val : ℝ) : EReal) + 1) = ((1001 - n.val : ℝ) : EReal) := by
    rw [← EReal.coe_sub, ← EReal.coe_one, ← EReal.coe_add]; congr 1; ring
  have h1 : (1001 : ℝ) - n ≠ 0 := by linarith
  rw [e1, ← EReal.coe_one, div_coe h1, ← EReal.coe_sub, ← EReal.coe_mul, ← EReal.coe_mul, ← EReal.coe_add]
  congr 1
  unfold mat diag
  simp only [Fin.ext_iff, Fin.val_zero]
  split_ifs <;> ring

/-- The loop's product of the running matrix with the one-step matrix at the index. -/
def mulAt (S : FVec Ideal S1001x104x104 .f32) (i : IVec S_ 32) (q : FVec Ideal S104x104 .f32) : FVec Ideal S104x104 .f32 :=
  Host.dotGeneral dot_S104x104_S104x104_S104x104_1_0_0_1_n_n none q (shapeCast S104x104 (Host.dynamicSlice S1x104x104 S
    (fun k => (((![select (cmpi .slt i (constantI S_ 32 0#32)) (addi i (constantI S_ 32 1001#32)) i,
      select (cmpi .slt (constantI S_ 32 0#32) (constantI S_ 32 0#32)) (addi (constantI S_ 32 0#32) (constantI S_ 32 104#32)) (constantI S_ 32 0#32),
      select (cmpi .slt (constantI S_ 32 0#32) (constantI S_ 32 0#32)) (addi (constantI S_ 32 0#32) (constantI S_ 32 104#32)) (constantI S_ 32 0#32)]
        : Fin 3 → IVec S_ 32)) k (Shape.Idx.first h_S_)).toInt) sliceFits_S1001x104x104_S1x104x104) shapeCasts_S1x104x104_S104x104)

/-- The loop's write of a matrix into the table at the index. -/
def putAt (Q : FVec Ideal S1001x104x104 .f32) (i : IVec S_ 32) (q : FVec Ideal S104x104 .f32) : FVec Ideal S1001x104x104 .f32 :=
  Host.dynamicUpdateSlice Q (broadcastInDim S1x104x104 ![1, 2] bcast_S104x104_S1x104x104_1_2 q)
    (fun k => (((![select (cmpi .slt i (constantI S_ 32 0#32)) (addi i (constantI S_ 32 1001#32)) i, constantI S_ 32 0#32, constantI S_ 32 0#32]
      : Fin 3 → IVec S_ 32)) k (Shape.Idx.first h_S_)).toInt) updateFits_S1001x104x104_S1x104x104

theorem slices_at (n : ℕ) (hn : n < 1001) : S1001x104x104.Slices ![n, 0, 0] S1x104x104 :=
  ⟨rfl, fun a => by
    match a with
    | ⟨0, _⟩ => show n + 1 ≤ 1001; omega
    | ⟨1, _⟩ => show 0 + 104 ≤ 104; omega
    | ⟨2, _⟩ => show 0 + 104 ≤ 104; omega⟩

set_option maxHeartbeats 1000000 in
theorem mulAt_apply (S : FVec Ideal S1001x104x104 .f32) (q : FVec Ideal S104x104 .f32) (n : ℕ) (hn : n < 1001) (i c : Fin 104) :
    mulAt S (constantI S_ 32 (BitVec.ofNat 32 n)) q (ix2 i c) = ∑ k : Fin 104, q (ix2 i k) * S (ix3 ⟨n, hn⟩ k c) := by
  unfold mulAt
  rw [Host.dynamicSlice_eq_extractStridedSlice S1x104x104 S _ ![n, 0, 0] _ (slices_at n hn) (fun a => by
    match a with
    | ⟨0, _⟩ => exact toInt_wrap_ofNat n (by omega)
    | ⟨1, _⟩ => exact toInt_wrap_ofNat (s := S_) 0 (by omega) (d := constantI S_ 32 104#32) (i := Shape.Idx.first h_S_)
    | ⟨2, _⟩ => exact toInt_wrap_ofNat (s := S_) 0 (by omega) (d := constantI S_ 32 104#32) (i := Shape.Idx.first h_S_))]
  pointwise

set_option maxHeartbeats 1000000 in
theorem putAt_apply (Q : FVec Ideal S1001x104x104 .f32) (q : FVec Ideal S104x104 .f32) (n : ℕ) (hn : n < 1001) (a : Fin 1001) (i c : Fin 104) :
    putAt Q (constantI S_ 32 (BitVec.ofNat 32 n)) q (ix3 a i c) = if a.val = n then q (ix2 i c) else Q (ix3 a i c) := by
  unfold putAt
  rw [WordCmp.dynamicUpdateSlice_eq_update Q _ _ _ ![n, 0, 0] (slices_at n hn) (fun a => by
    match a with
    | ⟨0, _⟩ => exact toInt_wrap_ofNat n (by omega)
    | ⟨1, _⟩ => rfl
    | ⟨2, _⟩ => rfl)]
  unfold updateSlice
  by_cases h : a.val = n
  · rw [if_pos h, dif_pos (fun k => by
      match k with
      | ⟨0, _⟩ => exact ⟨h.ge, (show a.val < n + 1 by omega)⟩
      | ⟨1, _⟩ => exact ⟨Nat.zero_le _, (show i.val < 0 + 104 by omega)⟩
      | ⟨2, _⟩ => exact ⟨Nat.zero_le _, (show c.val < 0 + 104 by omega)⟩)]
    unfold broadcastInDim
    refine congrArg q (funext fun k => Fin.ext ?_)
    match k with
    | ⟨0, _⟩ => rfl
    | ⟨1, _⟩ => rfl
  · rw [if_neg h, dif_neg (fun hk => h ?_)]
    have h0 := hk ⟨0, by decide⟩
    have h1 : n ≤ a.val := h0.1
    have h2 : a.val < n + 1 := h0.2
    omega

theorem step_table (V : Valuation τ sig (Elt Ideal)) :
    STEP V (Proc.devRef .tc main_v34_4) = putAt (V (Proc.devRef .tc main_v34_4)) (V (Proc.devRef .tc main_v34_2))
      (mulAt (V (Proc.devRef .tc main_v34_0)) (V (Proc.devRef .tc main_v34_2)) (V (Proc.devRef .tc main_v34_3))) := by
  rw [STEP_main_v34_4]; rfl

theorem step_prod (V : Valuation τ sig (Elt Ideal)) :
    STEP V (Proc.devRef .tc main_v34_3)
      = mulAt (V (Proc.devRef .tc main_v34_0)) (V (Proc.devRef .tc main_v34_2)) (V (Proc.devRef .tc main_v34_3)) := by
  rw [STEP_main_v34_3]; rfl

theorem step_count (V : Valuation τ sig (Elt Ideal)) :
    STEP V (Proc.devRef .tc main_v34_2) = addi (V (Proc.devRef .tc main_v34_2) : IVec S_ 32) (constantI S_ 32 1#32) := by
  rw [STEP_main_v34_2]; rfl

/-- The carried values after `k` steps of the loop. -/
theorem loop (V₀ : Valuation τ sig (Elt Ideal)) (h0 : V₀ (Proc.devRef .tc main_v34_0) = RefRun.stack (F := Ideal))
    (h2 : V₀ (Proc.devRef .tc main_v34_2) = constantI S_ 32 1#32) (h3 : V₀ (Proc.devRef .tc main_v34_3) = RefRun.first (F := Ideal))
    (h4 : V₀ (Proc.devRef .tc main_v34_4) = broadcastInDim S1001x104x104 ![1, 2] bcast_S104x104_S1001x104x104_1_2 (RefRun.first (F := Ideal)))
    (k : ℕ) (hk : k ≤ 1000) :
    (STEP^[k] V₀) (Proc.devRef .tc main_v34_0) = RefRun.stack (F := Ideal)
    ∧ (STEP^[k] V₀) (Proc.devRef .tc main_v34_2) = constantI S_ 32 (BitVec.ofNat 32 (k + 1))
    ∧ (∀ i c : Fin 104, ((STEP^[k] V₀) (Proc.devRef .tc main_v34_3) : FVec Ideal S104x104 .f32) (ix2 i c) = ((mat (run k) i c : ℝ) : EReal))
    ∧ (∀ a : Fin 1001, a.val ≤ k → ∀ i c : Fin 104,
        ((STEP^[k] V₀) (Proc.devRef .tc main_v34_4) : FVec Ideal S1001x104x104 .f32) (ix3 a i c) = ((mat (run a.val) i c : ℝ) : EReal)) := by
  induction k with
  | zero =>
    have hf : ∀ i c : Fin 104, RefRun.first (F := Ideal) (ix2 i c) = ((mat (run 0) i c : ℝ) : EReal) := by
      intro i c
      rw [← run_zero]
      refine Eq.trans ?_ (stack_at 0 i c)
      pointwise [RefRun.first]
    refine ⟨h0, h2, fun i c => ?_, fun a ha i c => ?_⟩
    · rw [Function.iterate_zero, id, h3]; exact hf i c
    · rw [Function.iterate_zero, id, h4, Nat.le_zero.1 ha]
      refine Eq.trans ?_ (hf i c)
      pointwise
  | succ k ih =>
    obtain ⟨i0, i2, i3, i4⟩ := ih (by omega)
    rw [Function.iterate_succ_apply']
    generalize STEP^[k] V₀ = V at i0 i2 i3 i4 ⊢
    have hp : ∀ i c : Fin 104, mulAt (V (Proc.devRef .tc main_v34_0)) (V (Proc.devRef .tc main_v34_2)) (V (Proc.devRef .tc main_v34_3)) (ix2 i c)
        = ((mat (Tables.run (k + 1)) i c : ℝ) : EReal) := by
      intro i c
      rw [i0, i2, mulAt_apply _ _ (k + 1) (by omega)]
      rw [Finset.sum_congr rfl fun x _ => by rw [i3, stack_at, ← EReal.coe_mul], coe_sum, mat_mul]
      rw [run_succ k (by omega)]
    refine ⟨?_, ?_, fun i c => ?_, fun a ha i c => ?_⟩
    · rw [STEP_main_v34_0, i0]
    · rw [step_count, i2]
      funext j
      show IntOp.addi (BitVec.ofNat 32 (k + 1)) (BitVec.ofNat 32 1) = _
      rw [WordCmp.addi_ofNat]; rfl
    · rw [step_prod]; exact hp i c
    · rw [step_table]
      have e := putAt_apply (V (Proc.devRef .tc main_v34_4)) (mulAt (V (Proc.devRef .tc main_v34_0)) (V (Proc.devRef .tc main_v34_2)) (V (Proc.devRef .tc main_v34_3)))
        (k + 1) (by omega) a i c
      rw [← i2] at e
      rw [e]
      split_ifs with h
      · rw [hp, h]
      · exact i4 a (by omega) i c

/-- An entry of the table of running products. -/
theorem table_at (m : (ℓ : Loc nD τ sig) → Buf (Elt Ideal) ℓ) (co : Dev nD) (a : Fin 1001) (i c : Fin 104) :
    RefRun.table m co (ix3 a i c) = ((mat (run a.val) i c : ℝ) : EReal) := by
  obtain ⟨h0, h2, h3, h4⟩ := RefRun.pre_carried (F := Ideal) (launchContents m co)
  exact (loop _ h0 h2 h3 h4 1000 le_rfl).2.2.2 a (by omega) i c

end Cert.Tables

end
-- ==== Proof.Gathers.lean ====
/- The reference's two gathers read at an index: a row of a one-step matrix, and a whole running product. -/
module

public import proofs.«01_k».proof.Proof.RefRun
public import proofs.«01_k».proof.Proof.Consts
public import Idealize.ShloMosaic.Lib.Pointwise
public import Idealize.ShloMosaic.Lib.DynamicIndex

@[expose] public section

set_option maxRecDepth 16384

noncomputable section

namespace Cert.Gathers

open Idealize.ShloMosaic
open Cert.ReferenceIdeal Cert.ReferenceIdeal.Gen

theorem si_pair (b : Fin 16384) (c : Fin 104) (k : Fin 2) (hk : k.val < gather_S1001x104x104_S16384x2_S16384x104_1_01_n_n_01_1_11104.startIndexMap.length) :
    gather_S1001x104x104_S16384x2_S16384x104_1_01_n_n_01_1_11104.siIdx (ix2 b c) ⟨k.val, hk⟩ = ix2 b k := by
  funext a
  apply Fin.ext
  match a with
  | ⟨0, _⟩ => rfl
  | ⟨1, _⟩ => rfl

theorem clamp (n N : ℕ) (h : n ≤ N) (hn : n < 2 ^ 31) : min (BitVec.ofNat 32 n).toInt.toNat N = n := by
  rw [toInt_ofNat_of_lt hn]
  omega

/-- The gather of a row: entry `(b, c)` is entry `(p, q, c)` where the indices at `b` are `p` and `q`. -/
theorem pair (T : FVec Ideal S1001x104x104 .f32) (idx : IVec S16384x2 32) (b : Fin 16384) (c : Fin 104) (p : Fin 1001) (q : Fin 104)
    (hp : idx (ix2 b 0) = BitVec.ofNat 32 p.val) (hq : idx (ix2 b 1) = BitVec.ofNat 32 q.val) :
    Host.gather gather_S1001x104x104_S16384x2_S16384x104_1_01_n_n_01_1_11104 T idx (ix2 b c) = T (ix3 p q c) := by
  unfold Host.gather
  refine congrArg T (funext fun a => Fin.ext ?_)
  match a with
  | ⟨0, _⟩ =>
    show min (idx (gather_S1001x104x104_S16384x2_S16384x104_1_01_n_n_01_1_11104.siIdx (ix2 b c) ⟨(0 : Fin 2).val, by decide⟩)).toInt.toNat 1000 + 0 + 0 = p.val
    rw [si_pair b c 0, hp]
    exact clamp _ _ (by omega) (by omega)
  | ⟨1, _⟩ =>
    show min (idx (gather_S1001x104x104_S16384x2_S16384x104_1_01_n_n_01_1_11104.siIdx (ix2 b c) ⟨(1 : Fin 2).val, by decide⟩)).toInt.toNat 103 + 0 + 0 = q.val
    rw [si_pair b c 1, hq]
    exact clamp _ _ (by omega) (by omega)
  | ⟨2, _⟩ => show 0 + 0 + c.val = c.val; omega

theorem si_one (b : Fin 16384) (i c : Fin 104) (k : Fin 1) (hk : k.val < gather_S1001x104x104_S16384x1_S16384x104x104_12_0_n_n_0_1_1104104.startIndexMap.length) :
    gather_S1001x104x104_S16384x1_S16384x104x104_12_0_n_n_0_1_1104104.siIdx (ix3 b i c) ⟨k.val, hk⟩ = ix2 b k := by
  funext a
  apply Fin.ext
  match a with
  | ⟨0, _⟩ => rfl
  | ⟨1, _⟩ => rfl

/-- The gather of a matrix: entry `(b, i, c)` is entry `(p, i, c)` where the index at `b` is `p`. -/
theorem one (Q : FVec Ideal S1001x104x104 .f32) (idx : IVec S16384x1 32) (b : Fin 16384) (i c : Fin 104) (p : Fin 1001)
    (hp : idx (ix2 b 0) = BitVec.ofNat 32 p.val) :
    Host.gather gather_S1001x104x104_S16384x1_S16384x104x104_12_0_n_n_0_1_1104104 Q idx (ix3 b i c) = Q (ix3 p i c) := by
  unfold Host.gather
  refine congrArg Q (funext fun a => Fin.ext ?_)
  match a with
  | ⟨0, _⟩ =>
    show min (idx (gather_S1001x104x104_S16384x1_S16384x104x104_12_0_n_n_0_1_1104104.siIdx (ix3 b i c) ⟨(0 : Fin 1).val, by decide⟩)).toInt.toNat 1000 + 0 + 0 = p.val
    rw [si_one b i c 0, hp]
    exact clamp _ _ (by omega) (by omega)
  | ⟨1, _⟩ => show 0 + 0 + i.val = i.val; omega
  | ⟨2, _⟩ => show 0 + 0 + c.val = c.val; omega

end Cert.Gathers

end
-- ==== Proof.RowMath.lean ====
/- One row of 104 classes, over the reals: the score the reference takes the argmax of, and the kernel's score, which
   differs from it by a number that is the same for every class of the row. -/
module

public import proofs.«01_k».proof.Proof.Consts

@[expose] public section

noncomputable section

namespace Cert.Row

open Idealize.ShloMosaic Cert.Consts

/-- The diagonal deficit of the one-step matrix at time `t`. -/
def beta (tn : ℕ) : ℝ := 1 / (1002 - tn)

/-- The diagonal of the running product at time `t`. -/
def acc (tn : ℕ) : ℝ := (1002 - tn) / 1001

/-- The first factor: entry `(c, x)` of the one-step matrix. -/
def F1 (xn tn : ℕ) (c : Fin 104) : ℝ := (if c.val = xn then 1 - beta tn else 0) + (if xn = 0 then beta tn else 0)

/-- The second factor, of a row of probabilities `p`. -/
def F2 (p : Fin 104 → ℝ) (tn : ℕ) (c : Fin 104) : ℝ := acc tn * p c + (if c.val = 0 then 1 - acc tn else 0)

/-- The real part of the score. -/
def L (p : Fin 104 → ℝ) (xn tn : ℕ) (c : Fin 104) : ℝ := Real.log (F1 xn tn c + r) + Real.log (F2 p tn c + r)

/-- The Gumbel noise drawn from `u`. -/
def G (u : EReal) : EReal := -Ideal.log (-Ideal.log (min 1 (max ((r : ℝ) : EReal) u)))

/-- The score the argmax is taken of. -/
def Y (p : Fin 104 → ℝ) (xn tn : ℕ) (u : Fin 104 → EReal) (c : Fin 104) : EReal := ((L p xn tn c : ℝ) : EReal) + G (u c)

theorem beta_pos {tn : ℕ} (h : tn ≤ 1000) : 0 < beta tn := by
  have : (tn : ℝ) ≤ 1000 := by exact_mod_cast h
  unfold beta; apply div_pos <;> linarith

theorem beta_le_one {tn : ℕ} (h : tn ≤ 1000) : beta tn ≤ 1 := by
  have : (tn : ℝ) ≤ 1000 := by exact_mod_cast h
  unfold beta; rw [div_le_one (by linarith)]; linarith

theorem acc_pos {tn : ℕ} (h : tn ≤ 1000) : 0 < acc tn := by
  have : (tn : ℝ) ≤ 1000 := by exact_mod_cast h
  unfold acc; apply div_pos <;> linarith

theorem acc_le_one {tn : ℕ} (h : 2 ≤ tn) : acc tn ≤ 1 := by
  have : (2 : ℝ) ≤ tn := by exact_mod_cast h
  unfold acc; rw [div_le_one (by norm_num)]; linarith

theorem F1_pos {xn tn : ℕ} (h : tn ≤ 1000) (c : Fin 104) : 0 < F1 xn tn c + r := by
  have := beta_pos h; have := beta_le_one h; have := r_pos
  unfold F1; split_ifs <;> linarith

theorem F2_pos {p : Fin 104 → ℝ} {tn : ℕ} (hp : ∀ c, 0 ≤ p c) (h2 : 2 ≤ tn) (h : tn ≤ 1000) (c : Fin 104) : 0 < F2 p tn c + r := by
  have := mul_nonneg (acc_pos h).le (hp c); have := acc_le_one h2; have := r_pos
  unfold F2; split_ifs <;> linarith

/-- The Gumbel noise is never `-∞`. -/
theorem log_clip (u : EReal) : ∃ w : ℝ, 0 ≤ w ∧ -Ideal.log (min 1 (max ((r : ℝ) : EReal) u)) = ((w : ℝ) : EReal) := by
  have h1 : min 1 (max ((r : ℝ) : EReal) u) ≤ ((1 : ℝ) : EReal) := min_le_left _ _
  have h2 : ((r : ℝ) : EReal) ≤ min 1 (max ((r : ℝ) : EReal) u) :=
    le_min (by exact_mod_cast r_le_one) (le_max_left _ _)
  generalize min 1 (max ((r : ℝ) : EReal) u) = v at h1 h2
  induction v with
  | bot => exact absurd h2 (by simp)
  | top => exact absurd h1 (not_le.2 (EReal.coe_lt_top 1))
  | coe v =>
    have h1' : v ≤ 1 := by exact_mod_cast h1
    have h2' : r ≤ v := by exact_mod_cast h2
    have hv : 0 < v := lt_of_lt_of_le r_pos h2'
    refine ⟨-Real.log v, ?_, ?_⟩
    · have := Real.log_nonpos hv.le h1'; linarith
    · rw [log_of_pos hv]; simp

theorem G_ne_bot (u : EReal) : G u ≠ ⊥ := by
  obtain ⟨w, h0, hw⟩ := log_clip u
  unfold G
  rw [hw, Ideal.log_coe]
  split_ifs
  · simp
  · rw [← EReal.coe_neg]; exact EReal.coe_ne_bot _

/-- The kernel clips the noise from below only: the same, for noise up to one. -/
theorem G_kernel {u : EReal} (hu : u ≤ 1) : G u = -Ideal.log (0 - Ideal.log (max u ((r : ℝ) : EReal))) := by
  have : min 1 (max ((r : ℝ) : EReal) u) = max u ((r : ℝ) : EReal) := by
    rw [max_comm u, min_eq_right]
    exact max_le (by exact_mod_cast r_le_one) hu
  unfold G
  rw [this, zero_sub]

/-- The logarithm the kernel adds at the class `x` alone. -/
def delta (xn tn : ℕ) : ℝ :=
  if xn = 0 then Real.log ((1 - beta tn + (beta tn + r)) / (beta tn + r)) else Real.log ((1 - beta tn + r) * (1 / r))

/-- The logarithm that the kernel leaves out at every class. -/
def base (xn tn : ℕ) : ℝ := if xn = 0 then Real.log (beta tn + r) else Real.log r

theorem log_F1 {xn tn : ℕ} (h : tn ≤ 1000) (c : Fin 104) :
    (if c.val = xn then delta xn tn else 0) = Real.log (F1 xn tn c + r) - base xn tn := by
  have hb := beta_pos h; have hb1 := beta_le_one h; have hr := r_pos
  have e1 : Real.log ((1 - beta tn + (beta tn + r)) / (beta tn + r)) = Real.log (1 - beta tn + beta tn + r) - Real.log (beta tn + r) := by
    rw [Real.log_div (by linarith) (by linarith)]; congr 2; ring
  have e2 : Real.log ((1 - beta tn + r) * (1 / r)) = Real.log (1 - beta tn + 0 + r) - Real.log r := by
    rw [mul_one_div, Real.log_div (by linarith) (by linarith)]; congr 2; ring
  unfold delta base F1
  rw [e1, e2]
  split_ifs <;> simp

/-- The second factor's logarithm as the kernel takes it: of the unnormalised row, times its sum. -/
theorem log_F2 {e : Fin 104 → ℝ} {s : ℝ} {tn : ℕ} (he : ∀ c, 0 ≤ e c) (hs : 0 < s) (h2 : 2 ≤ tn) (h : tn ≤ 1000) (c : Fin 104) :
    0 < acc tn * e c + (if c.val = 0 then (tn - 1) * (1 / 1001) + r else r) * s
      ∧ Real.log (acc tn * e c + (if c.val = 0 then (tn - 1) * (1 / 1001) + r else r) * s)
        = Real.log s + Real.log (F2 (fun c => e c / s) tn c + r) := by
  have hF := F2_pos (p := fun c => e c / s) (fun c => div_nonneg (he c) hs.le) h2 h c
  have key : acc tn * e c + (if c.val = 0 then ((tn : ℝ) - 1) * (1 / 1001) + r else r) * s = s * (F2 (fun c => e c / s) tn c + r) := by
    unfold F2 acc
    split_ifs <;> field_simp <;> ring
  rw [key]
  exact ⟨mul_pos hs hF, Real.log_mul hs.ne' hF.ne'⟩

/-- The kernel's score: the row of exponentials `e` with its sum `s` as they are. -/
def K (e : Fin 104 → ℝ) (s : ℝ) (xn tn : ℕ) (u : Fin 104 → EReal) (c : Fin 104) : EReal :=
  (Ideal.log ((acc tn * e c + (if c.val = 0 then (tn - 1) * (1 / 1001) + r else r) * s : ℝ) : EReal)
      - Ideal.log (0 - Ideal.log (max (u c) ((r : ℝ) : EReal)))) + ((if c.val = xn then delta xn tn else 0 : ℝ) : EReal)

/-- The kernel's score is the reference's plus a number that does not depend on the class. -/
theorem K_eq {e : Fin 104 → ℝ} {s : ℝ} {xn tn : ℕ} {u : Fin 104 → EReal} (he : ∀ c, 0 ≤ e c) (hs : 0 < s) (h2 : 2 ≤ tn)
    (h : tn ≤ 1000) (hu : ∀ c, u c ≤ 1) (c : Fin 104) :
    K e s xn tn u c = Y (fun c => e c / s) xn tn u c + ((Real.log s - base xn tn : ℝ) : EReal) := by
  obtain ⟨h0, h1⟩ := log_F2 he hs h2 h c
  unfold K Y L
  rw [G_kernel (hu c), log_of_pos h0, h1, log_F1 h, sub_eq_add_neg]
  generalize -Ideal.log (0 - Ideal.log (max (u c) ((r : ℝ) : EReal))) = g
  rw [add_right_comm, add_right_comm _ g, ← EReal.coe_add, ← EReal.coe_add]
  congr 2
  ring

/-- Adding a real number does not change which of two scores is less. -/
theorem add_real_lt {a b : EReal} (k : ℝ) : a + ((k : ℝ) : EReal) < b + ((k : ℝ) : EReal) ↔ a < b := by
  constructor
  · intro h
    by_contra hn
    exact absurd h (not_lt.2 (add_le_add_left (not_lt.1 hn) _))
  · intro h
    exact EReal.add_lt_add_right_coe h k

end Cert.Row

end
-- ==== Proof.Soft.lean ====
/- The softmax of a row whose largest logit is a real number: its exponentials are nonnegative reals with a positive sum,
   and the softmax is each of them over that sum. -/
module

public import proofs.«01_k».proof.Proof.Consts

@[expose] public section

noncomputable section

namespace Cert.Soft

open Idealize.ShloMosaic Cert.Consts

/-- The exponential of a value below `+∞` is a nonnegative real, positive unless the value is `-∞`. -/
theorem exp_real (v : EReal) (h : v < ⊤) : ∃ e : ℝ, 0 ≤ e ∧ (v ≠ ⊥ → 0 < e) ∧ Ideal.exp v = ((e : ℝ) : EReal)
    ∧ ∀ m : ℝ, Ideal.exp (v - ((m : ℝ) : EReal)) = ((e * Real.exp (-m) : ℝ) : EReal) := by
  induction v with
  | bot =>
    refine ⟨0, le_rfl, fun h => absurd rfl h, by simp, fun m => ?_⟩
    rw [sub_eq_add_neg, EReal.bot_add, Ideal.exp_bot]; simp
  | top => exact absurd h (lt_irrefl _)
  | coe x =>
    refine ⟨Real.exp x, (Real.exp_pos x).le, fun _ => Real.exp_pos x, Ideal.exp_coe .., fun m => ?_⟩
    rw [← EReal.coe_sub, Ideal.exp_coe, sub_eq_add_neg, Real.exp_add]

/-- The softmax of a row with a finite largest logit. -/
theorem soft (l : Fin 104 → EReal) (h : max (Finset.univ.fold max ⊥ l) (-(Finset.univ.fold max ⊥ l)) < ⊤) :
    ∃ e : Fin 104 → ℝ, (∀ c, 0 ≤ e c) ∧ 0 < ∑ c, e c ∧ (∀ c, Ideal.exp (l c) = ((e c : ℝ) : EReal))
      ∧ ∀ c, Ideal.div (Ideal.exp (l c - max ⊥ (Finset.univ.fold max ⊥ l))) (∑ x, Ideal.exp (l x - max ⊥ (Finset.univ.fold max ⊥ l)))
        = ((e c / ∑ x, e x : ℝ) : EReal) := by
  have hle : ∀ c, l c ≤ Finset.univ.fold max ⊥ l := fun c => by
    rw [fold_max_eq_sup]; exact Finset.le_sup (Finset.mem_univ c)
  have hat : ∃ c, l c = Finset.univ.fold max ⊥ l := by
    obtain ⟨c, _, hc⟩ := Finset.exists_mem_eq_sup Finset.univ ⟨0, Finset.mem_univ 0⟩ l
    exact ⟨c, by rw [fold_max_eq_sup]; exact hc.symm⟩
  have hm : max ⊥ (Finset.univ.fold max ⊥ l) = Finset.univ.fold max ⊥ l := max_eq_right bot_le
  rw [hm]
  generalize Finset.univ.fold max ⊥ l = M at h hle hat
  obtain ⟨h1, h2⟩ := max_lt_iff.1 h
  induction M with
  | bot => exact absurd h2 (by simp)
  | top => exact absurd h1 (lt_irrefl _)
  | coe m =>
    choose e e0 e1 e2 e3 using fun c => exp_real (l c) (lt_of_le_of_lt (hle c) h1)
    have hs : 0 < ∑ c, e c := by
      obtain ⟨c, hc⟩ := hat
      have : 0 < e c := e1 c (by rw [hc]; exact EReal.coe_ne_bot m)
      exact Finset.sum_pos' (fun c _ => e0 c) ⟨c, Finset.mem_univ c, this⟩
    refine ⟨e, e0, hs, e2, fun c => ?_⟩
    have hp := Real.exp_pos (-m)
    rw [Finset.sum_congr rfl fun x _ => e3 x m, coe_sum, e3, ← Finset.sum_mul, div_coe (mul_pos hs hp).ne', mul_div_mul_right _ _ hp.ne']

end Cert.Soft

end
-- ==== Proof.RefRow.lean ====
/- The reference's score read at a row and a class: the score of the row mathematics. -/
module

public import proofs.«01_k».proof.Proof.Tables
public import proofs.«01_k».proof.Proof.Gathers
public import proofs.«01_k».proof.Proof.RowMath
public import proofs.«01_k».proof.Proof.Soft

@[expose] public section

set_option maxRecDepth 16384

noncomputable section

namespace Cert.RefRow

open Idealize.ShloMosaic Cert.Consts
open Cert.ReferenceIdeal Cert.ReferenceIdeal.Gen

/-- The row index of time `n` less `j`. -/
theorem timeIdx_at (t : IVec S16384 32) (b : Fin 16384) (j n : ℕ) (hj : j ≤ n) (hn : n < 2 ^ 31) (h : t (ix1 b) = BitVec.ofNat 32 n) :
    RefRun.timeIdx (BitVec.ofNat 32 j) t (ix2 b 0) = BitVec.ofNat 32 (n - j) := by
  have e : RefRun.timeIdx (BitVec.ofNat 32 j) t (ix2 b 0) = Scalar.select (IntOp.cmpi .slt (IntOp.subi (t (ix1 b)) (BitVec.ofNat 32 j)) 0#32)
      (IntOp.addi (IntOp.subi (t (ix1 b)) (BitVec.ofNat 32 j)) 1001#32) (IntOp.subi (t (ix1 b)) (BitVec.ofNat 32 j)) := by
    pointwise [RefRun.timeIdx]
  rw [e, h, subi_ofNat _ _ (by omega) hj, wrap_ofNat _ _ (by omega)]

/-- The class as an index. -/
theorem classIdx_at (x : IVec S16384 32) (b : Fin 16384) (n : ℕ) (hn : n < 2 ^ 31) (h : x (ix1 b) = BitVec.ofNat 32 n) :
    RefRun.classIdx x (ix2 b 0) = BitVec.ofNat 32 n := by
  have e : RefRun.classIdx x (ix2 b 0) = Scalar.select (IntOp.cmpi .slt (x (ix1 b)) 0#32) (IntOp.addi (x (ix1 b)) 104#32) (x (ix1 b)) := by
    pointwise [RefRun.classIdx]
  rw [e, h, wrap_ofNat _ _ hn]

/-- The two index columns side by side. -/
theorem columns (p q : IVec S16384x1 32) (b : Fin 16384) :
    concatenate S16384x2 1 [⟨S16384x1, p⟩, ⟨S16384x1, q⟩] concatenates_S16384x1_S16384x1_S16384x2_d1 (ix2 b 0) = p (ix2 b 0)
    ∧ concatenate S16384x2 1 [⟨S16384x1, p⟩, ⟨S16384x1, q⟩] concatenates_S16384x1_S16384x1_S16384x2_d1 (ix2 b 1) = q (ix2 b 0) := by
  constructor
  · pointwise
  · pointwise

theorem transposed (T : FVec Ideal S1001x104x104 .f32) (p : Fin 1001) (q c : Fin 104) :
    transpose S1001x104x104 [0, 2, 1] T transposes_S1001x104x104_S1001x104x104_0_2_1 (ix3 p q c) = T (ix3 p c q) := by
  pointwise

variable (l u : FVec Ideal S16384x104 .f32) (x t : IVec S16384 32) (b : Fin 16384) (xn tn : ℕ)

/-- The first factor. -/
theorem fact1_at (hx : xn < 104) (h2 : 2 ≤ tn) (ht : tn ≤ 1000) (ex : x (ix1 b) = BitVec.ofNat 32 xn) (et : t (ix1 b) = BitVec.ofNat 32 tn) (c : Fin 104) :
    RefRun.fact1 (RefRun.stack (F := Ideal)) x t (ix2 b c) = ((Row.F1 xn tn c : ℝ) : EReal) := by
  unfold RefRun.fact1
  rw [Gathers.pair _ _ b c ⟨tn - 1, by omega⟩ ⟨xn, hx⟩ ((columns _ _ b).1.trans (timeIdx_at t b 1 tn (by omega) (by omega) et))
    ((columns _ _ b).2.trans (classIdx_at x b xn (by omega) ex)), transposed, Tables.stack_at]
  congr 1
  have : ((tn - 1 : ℕ) : ℝ) = tn - 1 := by rw [Nat.cast_sub (by omega)]; simp
  unfold Tables.mat Tables.diag Row.F1 Row.beta
  simp only [Fin.ext_iff, Fin.val_zero, this]
  have e : (1001 : ℝ) - (tn - 1) = 1002 - tn := by ring
  rw [e]
  split_ifs <;> ring

/-- A row of probabilities times a running product. -/
theorem row_mat (p : Fin 104 → ℝ) (hp : ∑ c, p c = 1) (a : ℝ) (c : Fin 104) :
    ∑ k, p k * Tables.mat a k c = a * p c + (if c.val = 0 then 1 - a else 0) := by
  have h : ∀ k, p k * Tables.mat a k c = (if k = c then a * p k else 0) + p k * (if c.val = 0 then 1 - a else 0) := by
    intro k
    unfold Tables.mat
    simp only [Fin.ext_iff, Fin.val_zero]
    split_ifs <;> ring
  rw [Finset.sum_congr rfl fun k _ => h k, Finset.sum_add_distrib, ← Finset.sum_mul, hp]
  simp

/-- The batched product of a row with a stack of matrices. -/
theorem dot_at (v : FVec Ideal S16384x104 .f32) (M : FVec Ideal S16384x104x104 .f32) (c : Fin 104) :
    Host.dotGeneral dot_S16384x104_S16384x104x104_S16384x104_1_1_n_2_0_0 none v M (ix2 b c) = ∑ k : Fin 104, v (ix2 b k) * M (ix3 b k c) := by
  pointwise

/-- The second factor. -/
theorem fact2_at (Q : FVec Ideal S1001x104x104 .f32) (hQ : ∀ a i c, Q (ix3 a i c) = ((Tables.mat (Tables.run a.val) i c : ℝ) : EReal))
    (h2 : 2 ≤ tn) (ht : tn ≤ 1000) (et : t (ix1 b) = BitVec.ofNat 32 tn) (p : Fin 104 → ℝ) (hp : ∑ c, p c = 1)
    (hl : ∀ c, RefRun.soft l (ix2 b c) = ((p c : ℝ) : EReal)) (c : Fin 104) :
    RefRun.fact2 l Q t (ix2 b c) = ((Row.F2 p tn c : ℝ) : EReal) := by
  have e : RefRun.fact2 l Q t (ix2 b c) = ∑ k : Fin 104, RefRun.soft l (ix2 b k)
      * Host.gather gather_S1001x104x104_S16384x1_S16384x104x104_12_0_n_n_0_1_1104104 Q (RefRun.timeIdx 2#32 t) (ix3 b k c) := dot_at b _ _ c
  have g : ∀ k : Fin 104, Host.gather gather_S1001x104x104_S16384x1_S16384x104x104_12_0_n_n_0_1_1104104 Q (RefRun.timeIdx 2#32 t) (ix3 b k c)
      = ((Tables.mat (Row.acc tn) k c : ℝ) : EReal) := by
    intro k
    rw [Gathers.one Q _ b k c ⟨tn - 2, by omega⟩ (timeIdx_at t b 2 tn h2 (by omega) et), hQ]
    refine congrArg (fun a : ℝ => ((Tables.mat a k c : ℝ) : EReal)) ?_
    unfold Tables.run Row.acc
    rw [Nat.cast_sub h2]
    push_cast
    ring
  rw [e, Finset.sum_congr rfl fun k _ => by rw [hl, g, ← EReal.coe_mul], coe_sum, row_mat p hp]
  rfl

/-- The score. -/
theorem score_at (Q : FVec Ideal S1001x104x104 .f32) (hQ : ∀ a i c, Q (ix3 a i c) = ((Tables.mat (Tables.run a.val) i c : ℝ) : EReal))
    (hx : xn < 104) (h2 : 2 ≤ tn) (ht : tn ≤ 1000) (ex : x (ix1 b) = BitVec.ofNat 32 xn) (et : t (ix1 b) = BitVec.ofNat 32 tn)
    (p : Fin 104 → ℝ) (h0 : ∀ c, 0 ≤ p c) (hp : ∑ c, p c = 1) (hl : ∀ c, RefRun.soft l (ix2 b c) = ((p c : ℝ) : EReal)) (c : Fin 104) :
    RefRun.score (RefRun.stack (F := Ideal)) Q l x t u (ix2 b c) = Row.Y p xn tn (fun c => u (ix2 b c)) c := by
  have e : RefRun.score (RefRun.stack (F := Ideal)) Q l x t u (ix2 b c) = Scalar.select (IntOp.cmpi .eq (t (ix1 b)) 1#32) (l (ix2 b c))
        (Ideal.log (RefRun.fact1 (RefRun.stack (F := Ideal)) x t (ix2 b c) + Ideal.ofBits .f32 0x358637BD#32)
          + Ideal.log (RefRun.fact2 l Q t (ix2 b c) + Ideal.ofBits .f32 0x358637BD#32))
      + -Ideal.log (-Ideal.log (min 1 (max (Ideal.ofBits .f32 0x358637BD#32) (u (ix2 b c)))))
        * (FloatOps.uitofp .f32 (IntOp.cmpi .ne (t (ix1 b)) 1#32) : Ideal .f32) := by
    pointwise [RefRun.score, RefRun.logits, RefRun.gumbel, RefRun.eps]
    have h1 : (id (constant (F := Ideal) S_ .f32 0x3F800000#32) ix0 : EReal) = 1 := ofBits_one
    rw [h1]
    rfl
  have hne : tn ≠ 1 := by omega
  have e1 : IntOp.cmpi .eq (t (ix1 b)) 1#32 = 0#1 := by
    rw [et]; exact (cmpi_ofNat tn 1 (by omega) (by omega)).trans (if_neg hne)
  have e2 : (FloatOps.uitofp .f32 (IntOp.cmpi .ne (t (ix1 b)) 1#32) : Ideal .f32) = (1 : EReal) := by
    rw [et, show IntOp.cmpi .ne (BitVec.ofNat 32 tn) 1#32 = 1#1 from cmpi_ne_ofNat tn 1 (by omega) (by omega) hne]
    show (((1#1 : BitVec 1).toNat : ℝ) : EReal) = 1
    simp
  have e3 : ∀ a d : EReal, Scalar.select 0#1 a d = d := fun _ _ => rfl
  rw [e, e1, e2, mul_one, e3, ofBits_eps, fact1_at x t b xn tn hx h2 ht ex et c, fact2_at l t b tn Q hQ h2 ht et p hp hl c,
    ← EReal.coe_add, ← EReal.coe_add, log_of_pos (Row.F1_pos ht c), log_of_pos (Row.F2_pos h0 h2 ht c), ← EReal.coe_add]
  rfl

end Cert.RefRow

end
-- ==== Proof.Reduces.lean ====
/- The reductions along a row, and the arrays made from them, read at an index. -/
module

public import proofs.«01_k».proof.Proof.RefRun
public import proofs.«01_k».proof.Proof.Consts
public import Idealize.ShloMosaic.Lib.Pointwise

@[expose] public section

set_option maxRecDepth 16384

noncomputable section

namespace Cert.Reduces

open Idealize.ShloMosaic Cert.Consts
open Cert.ReferenceIdeal Cert.ReferenceIdeal.Gen

/-- A row's largest value. -/
theorem max_at (y : FVec Ideal S16384x104 .f32) (b : Fin 16384) :
    Host.reduce FloatOps.maximumf y (constant S_ .f32 0xFF800000#32) reducesTo_S16384x104_S16384_d1 h_S_ (ix1 b)
      = Finset.univ.fold max ⊥ fun c : Fin 104 => y (ix2 b c) := by
  rw [← ofBits_negInf]
  pointwise

/-- A row's sum. -/
theorem sum_at (y : FVec Ideal S16384x104 .f32) (b : Fin 16384) :
    Host.reduceAdd y (constant S_ .f32 0x00000000#32) reducesTo_S16384x104_S16384_d1 h_S_ (ix1 b) = ∑ c : Fin 104, y (ix2 b c) := by
  pointwise

/-- A row's sum of words. -/
theorem count_at (y : IVec S16384x104 32) (b : Fin 16384) :
    Host.reduce IntOp.addi y (constantI S_ 32 0#32) reducesTo_S16384x104_S16384_d1 h_S_ (ix1 b)
      = Finset.univ.fold IntOp.addi 0#32 fun c : Fin 104 => y (ix2 b c) := by
  pointwise

theorem shifted_at (l : FVec Ideal S16384x104 .f32) (M : FVec Ideal S16384 .f32) (b : Fin 16384) (c : Fin 104) :
    Host.exp (subf l (broadcastInDim S16384x104 ![0, 1] bcast_S16384x1_S16384x104_0_1 (broadcastInDim S16384x1 ![0] bcast_S16384_S16384x1_0
      (maximumf (broadcastInDim S16384 ![] bcast_S_S16384 (constant S_ .f32 0xFF800000#32)) M)))) (ix2 b c)
      = Ideal.exp (l (ix2 b c) - max ⊥ (M (ix1 b))) := by
  rw [← ofBits_negInf]
  pointwise

theorem quot_at (e : FVec Ideal S16384x104 .f32) (s : FVec Ideal S16384 .f32) (b : Fin 16384) (c : Fin 104) :
    Host.divf e (broadcastInDim S16384x104 ![0, 1] bcast_S16384x1_S16384x104_0_1 (broadcastInDim S16384x1 ![0] bcast_S16384_S16384x1_0 s)) (ix2 b c)
      = Ideal.div (e (ix2 b c)) (s (ix1 b)) := by
  pointwise

/-- The softmax of a row. -/
theorem soft_at (l : FVec Ideal S16384x104 .f32) (b : Fin 16384) (c : Fin 104) :
    RefRun.soft l (ix2 b c) = Ideal.div (Ideal.exp (l (ix2 b c) - max ⊥ (Finset.univ.fold max ⊥ fun c : Fin 104 => l (ix2 b c))))
      (∑ k : Fin 104, Ideal.exp (l (ix2 b k) - max ⊥ (Finset.univ.fold max ⊥ fun c : Fin 104 => l (ix2 b c)))) := by
  have he : ∀ k : Fin 104, RefRun.exps l (ix2 b k) = Ideal.exp (l (ix2 b k) - max ⊥ (Finset.univ.fold max ⊥ fun c : Fin 104 => l (ix2 b c))) := by
    intro k
    unfold RefRun.exps
    rw [shifted_at, max_at]
  unfold RefRun.soft
  rw [quot_at, sum_at, he, Finset.sum_congr rfl fun k _ => he k]

/-- Where a score equals the row's largest, as a word. -/
theorem hit_at (y : FVec Ideal S16384x104 .f32) (M : FVec Ideal S16384 .f32) (h : 1 < 32) (b : Fin 16384) (c : Fin 104) :
    extui 32 (cmpf .oeq y (broadcastInDim S16384x104 ![0, 1] bcast_S16384x1_S16384x104_0_1 (broadcastInDim S16384x1 ![0] bcast_S16384_S16384x1_0 M))) h (ix2 b c)
      = BitVec.setWidth 32 (BitVec.ofBool (decide (y (ix2 b c) = M (ix1 b)))) := by
  pointwise

theorem one_at (n : IVec S16384 32) (b : Fin 16384) :
    cmpi .eq n (broadcastInDim S16384 ![] bcast_S_S16384 (constantI S_ 32 1#32)) (ix1 b) = IntOp.cmpi .eq (n (ix1 b)) 1#32 := by
  pointwise

end Cert.Reduces

end
-- ==== Proof.PreRead.lean ====
/- The precondition read at a row: the class and the time are small naturals, the noise is at most one, and the row's
   largest logit is finite. -/
module

public import proofs.«01_k».proof.Proof.Consts
public import proofs.«01_k».proof.Proof.Reduces
public import proofs.«01_k».proof.Proof.Gen.Pre_drawn
public import Idealize.ShloMosaic.Lib.Pointwise

@[expose] public section

set_option maxRecDepth 16384

noncomputable section

namespace Cert.PreRead

open Idealize.ShloMosaic Cert.Consts Cert.Pre_drawn

theorem and_one (a b : BitVec 1) (h : IntOp.andi a b = 1#1) : a = 1#1 ∧ b = 1#1 := by revert a b; decide

theorem bit {p : Prop} [Decidable p] (h : BitVec.ofBool (decide p) = 1#1) : p := by
  by_contra hn
  rw [decide_eq_false hn] at h
  exact absurd h (by decide)

/-- A word between two small bounds is the word of a natural between them. -/
theorem small (x : BitVec 32) (lo hi : ℕ) (hhi : hi < 2 ^ 31) (h1 : (lo : ℤ) ≤ x.toInt) (h2 : x.toInt ≤ hi) :
    ∃ n : ℕ, lo ≤ n ∧ n ≤ hi ∧ x = BitVec.ofNat 32 n := by
  rw [BitVec.toInt_eq_toNat_cond] at h1 h2
  have hx := x.isLt
  refine ⟨x.toNat, ?_, ?_, ?_⟩
  · split at h1 <;> omega
  · split at h2 <;> split at h1 <;> omega
  · rw [BitVec.ofNat_toNat, BitVec.setWidth_eq]

variable (l : FVec Ideal S16384x104 .f32) (x t : IVec S16384 32) (u : FVec Ideal S16384x104 .f32) (T Q : FVec Ideal S1001x104x104 .f32)

theorem below_at (M : FVec Ideal S16384 .f32) (b : Fin 16384) :
    cmpf .olt (Host.absf M) (broadcastInDim S16384 ![] Facts.bcast_S_S16384 (constant S_ .f32 0x7F800000#32)) (ix1 b)
      = BitVec.ofBool (decide (FloatOps.absf (F := Ideal) (φ := .f32) (M (ix1 b)) < Ideal.ofBits .f32 0x7F800000#32)) := by
  pointwise

/-- The three arrays the precondition computes, at an index. -/
theorem parts : ∃ (A : IVec S16384 1) (B : IVec S16384x104 1) (C : IVec S16384 1), fn (F := Ideal) l x t u T Q = (A, B, C)
    ∧ ∀ (b : Fin 16384) (c : Fin 104),
      A (ix1 b) = IntOp.andi (IntOp.andi (IntOp.andi (IntOp.cmpi .sge (x (ix1 b)) 0#32)
        (IntOp.cmpi .slt (x (ix1 b)) 104#32)) (IntOp.cmpi .sge (t (ix1 b)) 2#32)) (IntOp.cmpi .sle (t (ix1 b)) 1000#32)
      ∧ B (ix2 b c) = BitVec.ofBool (decide (u (ix2 b c) ≤ 1))
      ∧ C (ix1 b) = BitVec.ofBool (decide (FloatOps.absf (F := Ideal) (φ := .f32)
        (Finset.univ.fold max ⊥ fun c : Fin 104 => l (ix2 b c)) < Ideal.ofBits .f32 0x7F800000#32)) := by
  refine ⟨_, _, _, rfl, fun b c => ⟨?_, ?_, ?_⟩⟩
  · pointwise
  · pointwise
  · exact (below_at _ b).trans (by beta_reduce; rw [Reduces.max_at])

theorem ranges (b : Fin 16384) (h : (fn (F := Ideal) l x t u T Q).1 = fun _ => 1#1) :
    (∃ n : ℕ, n < 104 ∧ x (ix1 b) = BitVec.ofNat 32 n) ∧ ∃ n : ℕ, 2 ≤ n ∧ n ≤ 1000 ∧ t (ix1 b) = BitVec.ofNat 32 n := by
  obtain ⟨A, B, C, e, hp⟩ := parts l x t u T Q
  rw [e] at h
  have h := (hp b 0).1.symm.trans (congrFun h (ix1 b))
  obtain ⟨h, h4⟩ := and_one _ _ h
  obtain ⟨h, h3⟩ := and_one _ _ h
  obtain ⟨h1, h2⟩ := and_one _ _ h
  have hb : ∀ c : Bool, BitVec.ofBool c = 1#1 → c = true := by decide
  have g1 : (0 : ℤ) ≤ (x (ix1 b)).toInt := by have := hb _ h1; simpa [BitVec.sle] using this
  have g2 : (x (ix1 b)).toInt < 104 := by have := hb _ h2; simpa [BitVec.slt] using this
  have g3 : (2 : ℤ) ≤ (t (ix1 b)).toInt := by have := hb _ h3; simpa [BitVec.sle] using this
  have g4 : (t (ix1 b)).toInt ≤ 1000 := by have := hb _ h4; simpa [BitVec.sle] using this
  obtain ⟨n, _, hn, e1⟩ := small (x (ix1 b)) 0 103 (by norm_num) g1 (by omega)
  obtain ⟨k, hk1, hk2, e2⟩ := small (t (ix1 b)) 2 1000 (by norm_num) g3 g4
  exact ⟨⟨n, by omega, e1⟩, k, hk1, hk2, e2⟩

theorem noise (b : Fin 16384) (c : Fin 104) (h : (fn (F := Ideal) l x t u T Q).2.1 = fun _ => 1#1) : u (ix2 b c) ≤ 1 := by
  obtain ⟨A, B, C, e, hp⟩ := parts l x t u T Q
  rw [e] at h
  exact bit ((hp b c).2.1.symm.trans (congrFun h (ix2 b c)))

theorem finite (b : Fin 16384) (h : (fn (F := Ideal) l x t u T Q).2.2 = fun _ => 1#1) :
    max (Finset.univ.fold max ⊥ fun c : Fin 104 => l (ix2 b c)) (-(Finset.univ.fold max ⊥ fun c : Fin 104 => l (ix2 b c))) < ⊤ := by
  obtain ⟨A, B, C, e, hp⟩ := parts l x t u T Q
  rw [e] at h
  have h := (hp b 0).2.2.symm.trans (congrFun h (ix1 b))
  rw [ofBits_posInf] at h
  exact bit h

end Cert.PreRead

end
-- ==== Proof.MaskRow.lean ====
/- The mask read at a row: it is set exactly where one class has the one largest score. -/
module

public import proofs.«01_k».proof.Proof.RowMath
public import proofs.«01_k».proof.Proof.Pick
public import proofs.«01_k».proof.Proof.Soft
public import proofs.«01_k».proof.Proof.Reduces
public import proofs.«01_k».proof.Proof.Gen.On_untied
public import Idealize.ShloMosaic.Lib.Pointwise

@[expose] public section

set_option maxRecDepth 16384

noncomputable section

namespace Cert.MaskRow

open Idealize.ShloMosaic Cert.Consts Cert.On_untied Cert.On_untied.Facts

theorem eq_of_cmpi (a b : BitVec 32) (h : IntOp.cmpi .eq a b = 1#1) : a = b := by
  have hb : ∀ c : Bool, BitVec.ofBool c = 1#1 → c = true := by decide
  exact eq_of_beq (hb _ h)

/-- The mask's last part: one score is the largest of its row. -/
theorem part3 (g a d : FVec Ideal S16384x104 .f32) (b : Fin 16384) (h : fn_part3 (F := Ideal) g a d (ix1 b) = 1#1) :
    ∃ k, Pick.Best (fun c => a (ix2 b c) + d (ix2 b c) + g (ix2 b c)) k := by
  unfold fn_part3 at h
  have hs : ∀ c : Fin 104, addf (addf a d) g (ix2 b c) = a (ix2 b c) + d (ix2 b c) + g (ix2 b c) := fun _ => rfl
  generalize addf (addf a d) g = y at h hs
  have h' := eq_of_cmpi _ _ ((Reduces.one_at _ b).symm.trans h)
  beta_reduce at h'
  rw [Reduces.count_at] at h'
  rw [← funext hs]
  refine Pick.best_of_count (y := fun c => y (ix2 b c)) (Eq.trans ?_ h')
  refine congrArg (fun f => Finset.univ.fold IntOp.addi 0#32 f) (funext fun c => ?_)
  rw [Reduces.hit_at, Reduces.max_at]

/-- The two factors and the noise, as the mask's second part makes them, at an index. -/
theorem part2 (u : FVec Ideal S16384x104 .f32) (io : IVec S1x104 32) (ac : FVec Ideal S16384x1 .f32) (f1 p : FVec Ideal S16384x104 .f32) :
    ∃ g a d : FVec Ideal S16384x104 .f32, fn_part2 (F := Ideal) u io ac f1 p = fn_part3 (F := Ideal) g a d
      ∧ ∀ (b : Fin 16384) (c : Fin 104), g (ix2 b c) = Row.G (u (ix2 b c))
        ∧ a (ix2 b c) = Ideal.log (f1 (ix2 b c) + Ideal.ofBits .f32 0x358637BD#32)
        ∧ d (ix2 b c) = Ideal.log (p (ix2 b c) + Scalar.select (IntOp.cmpi .eq (io (ix2 0 c)) 0#32) (1 - ac (ix2 b 0)) 0 + Ideal.ofBits .f32 0x358637BD#32) := by
  refine ⟨_, _, _, rfl, fun b c => ⟨?_, ?_, ?_⟩⟩
  · pointwise [fn_clip]
    show -Ideal.log (-Ideal.log (min (Ideal.ofBits .f32 0x3F800000#32) (max (Ideal.ofBits .f32 0x358637BD#32) (u (ix2 b c))))) = _
    rw [ofBits_one, ofBits_eps]
    rfl
  · pointwise
  · pointwise [fn_where_1]
    show Ideal.log (p (ix2 b c) + Scalar.select (IntOp.cmpi .eq (io (ix2 0 c)) 0#32) (1 - ac (ix2 b 0)) (Ideal.ofBits .f32 0x00000000#32)
      + Ideal.ofBits .f32 0x358637BD#32) = _
    rw [ofBits_zero]

theorem scaled_at (ac : FVec Ideal S16384x1 .f32) (q : FVec Ideal S16384x104 .f32) (b : Fin 16384) (c : Fin 104) :
    mulf (broadcastInDim S16384x104 ![0, 1] bcast_S16384x1_S16384x104_0_1 ac) q (ix2 b c) = ac (ix2 b 0) * q (ix2 b c) := by
  pointwise

/-- The first factor and the scaled softmax, as the mask's first part makes them, at an index. -/
theorem part1 (l u : FVec Ideal S16384x104 .f32) (x1 : IVec S16384x1 32) (io : IVec S1x104 32) (be ac : FVec Ideal S16384x1 .f32)
    (w : IVec S16384x104 1) (de : FVec Ideal S16384x1 .f32) (z : FVec Ideal S_ .f32) :
    ∃ f1 p : FVec Ideal S16384x104 .f32, fn_part1 (F := Ideal) l u x1 io be ac w de z = fn_part2 (F := Ideal) u io ac f1 p
      ∧ ∀ (b : Fin 16384) (c : Fin 104),
        f1 (ix2 b c) = Scalar.select (w (ix2 b c)) (de (ix2 b 0)) (z ix0) + Scalar.select (IntOp.cmpi .eq (x1 (ix2 b 0)) 0#32) (be (ix2 b 0)) 0
        ∧ p (ix2 b c) = ac (ix2 b 0) * RefRun.soft l (ix2 b c) := by
  refine ⟨_, _, rfl, fun b c => ⟨?_, ?_⟩⟩
  · pointwise [fn_where, fn_where_0]
    show Scalar.select (w (ix2 b c)) (de (ix2 b 0)) (z ix0)
      + Scalar.select (IntOp.cmpi .eq (x1 (ix2 b 0)) 0#32) (be (ix2 b 0)) (Ideal.ofBits .f32 0x00000000#32) = _
    rw [ofBits_zero]
  · exact scaled_at ac (RefRun.soft l) b c

/-- The arrays the mask's head makes, at an index. -/
theorem part0 (l : FVec Ideal S16384x104 .f32) (x t : IVec S16384 32) (u : FVec Ideal S16384x104 .f32) (T Q : FVec Ideal S1001x104x104 .f32) :
    ∃ (x1 : IVec S16384x1 32) (io : IVec S1x104 32) (be ac : FVec Ideal S16384x1 .f32) (w : IVec S16384x104 1) (de : FVec Ideal S16384x1 .f32)
      (z : FVec Ideal S_ .f32), fn (F := Ideal) l x t u T Q = fn_part1 (F := Ideal) l u x1 io be ac w de z
      ∧ z ix0 = 0 ∧ ∀ (b : Fin 16384) (c : Fin 104), x1 (ix2 b 0) = x (ix1 b) ∧ io (ix2 0 c) = BitVec.ofNat 32 c.val
        ∧ be (ix2 b 0) = Ideal.div 1 (Ideal.ofBits .f32 0x447A8000#32 - (FloatOps.sitofp .f32 (t (ix1 b)) : Ideal .f32))
        ∧ ac (ix2 b 0) = Ideal.div (Ideal.ofBits .f32 0x447A8000#32 - (FloatOps.sitofp .f32 (t (ix1 b)) : Ideal .f32)) (Ideal.ofBits .f32 0x447A4000#32)
        ∧ w (ix2 b c) = IntOp.cmpi .eq (BitVec.ofNat 32 c.val) (x (ix1 b))
        ∧ de (ix2 b 0) = 1 - Ideal.div 1 (Ideal.ofBits .f32 0x447A8000#32 - (FloatOps.sitofp .f32 (t (ix1 b)) : Ideal .f32)) := by
  refine ⟨_, _, _, _, _, _, _, rfl, ?_, fun b c => ⟨?_, ?_, ?_, ?_, ?_, ?_⟩⟩
  · pointwise
  · pointwise
  · pointwise
  · pointwise
  · pointwise
  · pointwise
  · pointwise

variable (l u : FVec Ideal S16384x104 .f32) (x t : IVec S16384 32) (T Q : FVec Ideal S1001x104x104 .f32) (b : Fin 16384) (xn tn : ℕ)

/-- Where the mask is set, one class of the row has the one largest score. -/
theorem best (hx : xn < 104) (h2 : 2 ≤ tn) (ht : tn ≤ 1000) (ex : x (ix1 b) = BitVec.ofNat 32 xn) (et : t (ix1 b) = BitVec.ofNat 32 tn)
    (p : Fin 104 → ℝ) (h0 : ∀ c, 0 ≤ p c) (hl : ∀ c, RefRun.soft l (ix2 b c) = ((p c : ℝ) : EReal))
    (h : fn (F := Ideal) l x t u T Q (ix1 b) = 1#1) : ∃ k, Pick.Best (Row.Y p xn tn fun c => u (ix2 b c)) k := by
  obtain ⟨x1, io, be, ac, w, de, z, e0, hz, h0'⟩ := part0 l x t u T Q
  obtain ⟨f1, q, e1, h1'⟩ := part1 l u x1 io be ac w de z
  obtain ⟨g, a, d, e2, h2'⟩ := part2 u io ac f1 q
  rw [e0, e1, e2] at h
  obtain ⟨k, hk⟩ := part3 g a d b h
  refine ⟨k, ?_⟩
  have hn : (1002 : ℝ) - tn ≠ 0 := by
    have : (tn : ℝ) ≤ 1000 := by exact_mod_cast ht
    linarith
  have ebe : Ideal.div 1 (((1002 : ℝ) : EReal) - (((tn : ℝ)) : EReal)) = ((Row.beta tn : ℝ) : EReal) := by
    rw [← EReal.coe_one, ← EReal.coe_sub, div_coe hn]; rfl
  have eac : Ideal.div (((1002 : ℝ) : EReal) - (((tn : ℝ)) : EReal)) ((1001 : ℝ) : EReal) = ((Row.acc tn : ℝ) : EReal) := by
    rw [← EReal.coe_sub, div_coe (by norm_num)]; rfl
  have key : (fun c => a (ix2 b c) + d (ix2 b c) + g (ix2 b c)) = Row.Y p xn tn fun c => u (ix2 b c) := by
    funext c
    obtain ⟨i1, i2, i3, i4, i5, i6⟩ := h0' b c
    obtain ⟨j1, j2⟩ := h1' b c
    obtain ⟨k1, k2, k3⟩ := h2' b c
    have z0 : (0 : EReal) = ((0 : ℝ) : EReal) := EReal.coe_zero.symm
    have hz0 : ∀ n : ℕ, n < 2 ^ 32 → IntOp.cmpi .eq (BitVec.ofNat 32 n) 0#32 = if n = 0 then 1#1 else 0#1 := fun n hn => cmpi_ofNat n 0 hn (by omega)
    have ef : f1 (ix2 b c) = ((Row.F1 xn tn c : ℝ) : EReal) := by
      rw [j1, i5, i6, i1, i3, hz, ex, et, sitofp_ofNat _ (by omega), ofBits_1002, ebe, cmpi_ofNat _ _ (by omega) (by omega), hz0 xn (by omega),
        select_ite, select_ite, ← EReal.coe_one, ← EReal.coe_sub, z0]
      unfold Row.F1
      split_ifs <;> exact (EReal.coe_add _ _).symm
    have eq : q (ix2 b c) + Scalar.select (IntOp.cmpi .eq (io (ix2 0 c)) 0#32) (1 - ac (ix2 b 0)) 0 = ((Row.F2 p tn c : ℝ) : EReal) := by
      rw [j2, i4, i2, et, sitofp_ofNat _ (by omega), ofBits_1002, ofBits_1001, eac, hl, hz0 c.val (by omega), select_ite, ← EReal.coe_one,
        ← EReal.coe_sub, ← EReal.coe_mul, z0]
      unfold Row.F2
      split_ifs <;> exact (EReal.coe_add _ _).symm
    rw [k1, k2, k3, eq, ef, ofBits_eps, ← EReal.coe_add, ← EReal.coe_add, log_of_pos (Row.F1_pos ht c), log_of_pos (Row.F2_pos h0 h2 ht c),
      ← EReal.coe_add]
    rfl
  rw [← key]
  exact hk

end Cert.MaskRow

end
-- ==== Proof.KernelRow.lean ====
/- The kernel's body read at a row of its block. -/
module

public import proofs.«01_k».proof.Proof.RowMath
public import proofs.«01_k».proof.Proof.Pick
public import proofs.«01_k».proof.Proof.Gen.KernelIdeal.Value
public import Idealize.ShloMosaic.Lib.Pointwise

@[expose] public section

set_option maxRecDepth 16384

noncomputable section

namespace Cert.KernelRow

open Idealize.ShloMosaic Cert.Consts
open Cert.KernelIdeal Cert.KernelIdeal.Gen

/-- The score of class `c` from the row's five staged numbers, its logits and its noise. -/
def score (a0 a1 a2 a3 : EReal) (l u : Fin 104 → EReal) (c : Fin 104) : EReal :=
  Ideal.log (a0 * Ideal.exp (l c) + Scalar.select (IntOp.cmpi .eq (BitVec.ofNat 32 c.val) 0#32) a1 (Ideal.ofBits .f32 0x358637BD#32) * ∑ x, Ideal.exp (l x))
    - Ideal.log (0 - Ideal.log (max (u c) (Ideal.ofBits .f32 0x358637BD#32)))
    + Scalar.select (IntOp.cmpi .eq (BitVec.ofNat 32 c.val) (FloatOps.fptosi (F := Ideal) (φ := .f32) 32 a3)) a2 0

/-- Row `k` of a staged block, as the product with the unit matrix gives it. -/
def sel (v : FVec Ideal S8x2048 .f32) (n : ℕ) (j : Fin 2048) : EReal :=
  ∑ k : Fin 8, v (ix2 k j) * (FloatOps.sitofp .f32 (BitVec.setWidth 32 (IntOp.cmpi .eq (BitVec.ofNat 32 k.val) (BitVec.ofNat 32 n))) : Ideal .f32)

theorem pay3_at (l u : Vec Ideal S2048x104 .f32) (v : FVec Ideal S8x2048 .f32) (j : Fin 2048) :
    k0_pay3 (F := Ideal) l u v k0_pay2 (ix1 j) = FloatOps.fptosi (F := Ideal) (φ := .f32) 32 (∑ c : Fin 104,
      (FloatOps.sitofp .f32 (BitVec.setWidth 32 (BitVec.ofBool (decide (score (sel v 0 j) (sel v 1 j) (sel v 2 j) (sel v 3 j) (fun c => l (ix2 j c)) (fun c => u (ix2 j c)) c
        = Finset.univ.fold max (Ideal.ofBits .f32 0xFF800000#32) (score (sel v 0 j) (sel v 1 j) (sel v 2 j) (sel v 3 j) (fun c => l (ix2 j c)) (fun c => u (ix2 j c))))))) : Ideal .f32)
        * (FloatOps.sitofp .f32 (BitVec.ofNat 32 c.val) : Ideal .f32)) := by
  unfold score sel
  pointwise [k0_pay3, k0_pay2]

end Cert.KernelRow

end
-- ==== Proof.KernelScore.lean ====
/- The kernel's score of a row, from the numbers the body stages for it: the kernel's score of the row mathematics. -/
module

public import proofs.«01_k».proof.Proof.KernelRow

@[expose] public section

set_option maxRecDepth 16384

noncomputable section

namespace Cert.KernelScore

open Idealize.ShloMosaic Cert.Consts Cert.KernelRow
open Cert.KernelIdeal Cert.KernelIdeal.Gen

theorem sel_eq (v : FVec Ideal S8x2048 .f32) (n : Fin 8) (j : Fin 2048) : sel v n.val j = v (ix2 n j) := by
  unfold sel
  have h : ∀ k : Fin 8, (FloatOps.sitofp .f32 (BitVec.setWidth 32 (IntOp.cmpi .eq (BitVec.ofNat 32 k.val) (BitVec.ofNat 32 n.val))) : Ideal .f32)
      = (((if k.val = n.val then 1 else 0 : ℝ)) : EReal) := by
    intro k
    rw [cmpi_ofNat _ _ (by omega) (by omega), sitofp_setWidth_ite]
  rw [Finset.sum_congr rfl fun k _ => by rw [h k], Finset.sum_eq_single n]
  · simp
  · intro k _ hk
    rw [if_neg (fun e => hk (Fin.ext e))]; simp
  · intro hn; exact absurd (Finset.mem_univ n) hn

variable (x t : Vec Ideal S2048 .i32) (j : Fin 2048)

theorem row0 : k0_pay1 (F := Ideal) x t (ix2 0 j) = (Ideal.ofBits .f32 0x447A8000#32 - (FloatOps.sitofp .f32 (t (ix1 j)) : Ideal .f32))
    * Named.named (F := Ideal) Cert.KernelIdeal.κ "inv_steps" (φ := .f32) 0x3A82F0E9#32 := by
  pointwise [k0_pay1]

theorem row1 : k0_pay1 (F := Ideal) x t (ix2 1 j) = ((FloatOps.sitofp .f32 (t (ix1 j)) : Ideal .f32) - 1)
    * Named.named (F := Ideal) Cert.KernelIdeal.κ "inv_steps" (φ := .f32) 0x3A82F0E9#32 + Ideal.ofBits .f32 0x358637BD#32 := by
  pointwise [k0_pay1]

theorem row2 : k0_pay1 (F := Ideal) x t (ix2 2 j) = Scalar.select (IntOp.cmpi .eq (x (ix1 j)) 0#32)
    (Ideal.log (Ideal.div (1 - Ideal.div 1 (Ideal.ofBits .f32 0x447A8000#32 - (FloatOps.sitofp .f32 (t (ix1 j)) : Ideal .f32))
        + (Ideal.div 1 (Ideal.ofBits .f32 0x447A8000#32 - (FloatOps.sitofp .f32 (t (ix1 j)) : Ideal .f32)) + Ideal.ofBits .f32 0x358637BD#32))
      (Ideal.div 1 (Ideal.ofBits .f32 0x447A8000#32 - (FloatOps.sitofp .f32 (t (ix1 j)) : Ideal .f32)) + Ideal.ofBits .f32 0x358637BD#32)))
    (Ideal.log ((1 - Ideal.div 1 (Ideal.ofBits .f32 0x447A8000#32 - (FloatOps.sitofp .f32 (t (ix1 j)) : Ideal .f32)) + Ideal.ofBits .f32 0x358637BD#32)
      * Named.named (F := Ideal) Cert.KernelIdeal.κ "inv_eps" (φ := .f32) 0x49742400#32)) := by
  pointwise [k0_pay1]

theorem row3 : k0_pay1 (F := Ideal) x t (ix2 3 j) = (FloatOps.sitofp .f32 (x (ix1 j)) : Ideal .f32) := by
  pointwise [k0_pay1]

variable (xn tn : ℕ)

theorem acc_at (ht : tn ≤ 1000) (et : t (ix1 j) = BitVec.ofNat 32 tn) : sel (k0_pay1 (F := Ideal) x t) 0 j = ((Row.acc tn : ℝ) : EReal) := by
  rw [show sel (k0_pay1 (F := Ideal) x t) 0 j = _ from sel_eq _ 0 j, row0, inv_steps, et, sitofp_ofNat _ (by omega), ofBits_1002, ← EReal.coe_sub,
    ← EReal.coe_mul]
  congr 1
  unfold Row.acc
  ring

theorem first_at (ht : tn ≤ 1000) (et : t (ix1 j) = BitVec.ofNat 32 tn) :
    sel (k0_pay1 (F := Ideal) x t) 1 j = ((((tn : ℝ) - 1) * (1 / 1001) + r : ℝ) : EReal) := by
  rw [show sel (k0_pay1 (F := Ideal) x t) 1 j = _ from sel_eq _ 1 j, row1, inv_steps, et, sitofp_ofNat _ (by omega), ofBits_eps, ← EReal.coe_one,
    ← EReal.coe_sub, ← EReal.coe_mul, ← EReal.coe_add]

theorem delta_at (hx : xn < 104) (ht : tn ≤ 1000) (ex : x (ix1 j) = BitVec.ofNat 32 xn) (et : t (ix1 j) = BitVec.ofNat 32 tn) :
    sel (k0_pay1 (F := Ideal) x t) 2 j = ((Row.delta xn tn : ℝ) : EReal) := by
  have hb := Row.beta_pos ht
  have hb1 := Row.beta_le_one ht
  have hr := r_pos
  have h1 : (1002 : ℝ) - tn ≠ 0 := by
    have : (tn : ℝ) ≤ 1000 := by exact_mod_cast ht
    linarith
  have hz : IntOp.cmpi .eq (BitVec.ofNat 32 xn) 0#32 = if xn = 0 then 1#1 else 0#1 := cmpi_ofNat xn 0 (by omega) (by omega)
  have eb : Ideal.div 1 (((1002 : ℝ) : EReal) - (((tn : ℝ)) : EReal)) = ((Row.beta tn : ℝ) : EReal) := by
    rw [← EReal.coe_one, ← EReal.coe_sub, div_coe h1]; rfl
  have er : (8796093022208 / 8796093 : ℝ) = 1 / r := by unfold r; norm_num
  rw [show sel (k0_pay1 (F := Ideal) x t) 2 j = _ from sel_eq _ 2 j, row2, inv_eps, ex, et, sitofp_ofNat _ (by omega), ofBits_1002, ofBits_eps, eb, hz,
    select_ite, er, ← EReal.coe_one, ← EReal.coe_sub, ← EReal.coe_add, ← EReal.coe_add, ← EReal.coe_add, div_coe (by linarith), ← EReal.coe_mul,
    log_of_pos (div_pos (by linarith) (by linarith)), log_of_pos (mul_pos (by linarith) (one_div_pos.2 hr))]
  unfold Row.delta
  split_ifs <;> rfl

theorem class_at (hx : xn < 104) (ex : x (ix1 j) = BitVec.ofNat 32 xn) : sel (k0_pay1 (F := Ideal) x t) 3 j = (((xn : ℝ)) : EReal) := by
  rw [show sel (k0_pay1 (F := Ideal) x t) 3 j = _ from sel_eq _ 3 j, row3, ex, sitofp_ofNat _ (by omega)]

/-- The kernel's score of a row with real exponentials `e`. -/
theorem score_eq (hx : xn < 104) (l u : Fin 104 → EReal) (e : Fin 104 → ℝ) (he : ∀ c, Ideal.exp (l c) = ((e c : ℝ) : EReal)) (c : Fin 104) :
    score ((Row.acc tn : ℝ) : EReal) ((((tn : ℝ) - 1) * (1 / 1001) + r : ℝ) : EReal) ((Row.delta xn tn : ℝ) : EReal) (((xn : ℝ)) : EReal) l u c
      = Row.K e (∑ c, e c) xn tn u c := by
  have hz : IntOp.cmpi .eq (BitVec.ofNat 32 c.val) 0#32 = if c.val = 0 then 1#1 else 0#1 := cmpi_ofNat c.val 0 (by omega) (by omega)
  unfold score Row.K
  rw [fptosi_nat xn (by omega), cmpi_ofNat c.val xn (by omega) (by omega), hz, select_ite, select_ite, ofBits_eps,
    Finset.sum_congr rfl fun x _ => he x, coe_sum, he, ← EReal.coe_mul]
  congr 1
  · congr 2
    split_ifs <;> rw [← EReal.coe_mul, ← EReal.coe_add]
  · split_ifs <;> simp

/-- What the body leaves at row `j`, where class `k` has the one largest score. -/
theorem pay_best (l u : Vec Ideal S2048x104 .f32) (hx : xn < 104) (h2 : 2 ≤ tn) (ht : tn ≤ 1000) (ex : x (ix1 j) = BitVec.ofNat 32 xn)
    (et : t (ix1 j) = BitVec.ofNat 32 tn) (hu : ∀ c, u (ix2 j c) ≤ 1) (e : Fin 104 → ℝ) (h0 : ∀ c, 0 ≤ e c) (hs : 0 < ∑ c, e c)
    (he : ∀ c, Ideal.exp (l (ix2 j c)) = ((e c : ℝ) : EReal)) (k : Fin 104)
    (hk : Pick.Best (Row.Y (fun c => e c / ∑ c, e c) xn tn fun c => u (ix2 j c)) k) :
    k0_pay3 (F := Ideal) l u (k0_pay1 (F := Ideal) x t) k0_pay2 (ix1 j) = BitVec.ofNat 32 k.val := by
  have hb : Pick.Best (score (sel (k0_pay1 (F := Ideal) x t) 0 j) (sel (k0_pay1 (F := Ideal) x t) 1 j) (sel (k0_pay1 (F := Ideal) x t) 2 j)
      (sel (k0_pay1 (F := Ideal) x t) 3 j) (fun c => l (ix2 j c)) (fun c => u (ix2 j c))) k := by
    rw [acc_at x t j tn ht et, first_at x t j tn ht et, delta_at x t j xn tn hx ht ex et, class_at x t j xn hx ex]
    intro c hc
    rw [score_eq xn tn hx _ _ e he c, score_eq xn tn hx _ _ e he k, Row.K_eq h0 hs h2 ht hu c, Row.K_eq h0 hs h2 ht hu k]
    exact (Row.add_real_lt _).2 (hk c hc)
  rw [pay3_at, ofBits_negInf, Pick.sum_best hb]
  exact fptosi_nat k.val (by omega)

end Cert.KernelScore

end
-- ==== Proof.KernelBlocks.lean ====
/- The kernel's result array at a row: what the body leaves at the row's place in its block, its operands the blocks of
   the argument arrays that hold the row. -/
module

public import proofs.«01_k».proof.Proof.Gen.KernelIdeal.Value
public import proofs.«01_k».proof.Proof.KernelScore
public import Idealize.ShloMosaic.Lib.Pipeline.ValueKit

@[expose] public section

set_option maxRecDepth 16384

noncomputable section

namespace Cert.KernelBlocks

open Idealize.ShloMosaic Idealize.ShloMosaic.TcCoe Cert.Consts
open Cert.KernelIdeal Cert.KernelIdeal.Gen

variable (m : (ℓ : Loc nD τ sig) → Buf (Elt Ideal) ℓ) (co : Dev nD)

theorem hz : (![0, 0] : Fin 2 → Nat) = fun _ => 0 := funext fun a => by fin_cases a <;> rfl

theorem hz1 : (![0] : Fin 1 → Nat) = fun _ => 0 := funext fun a => by fin_cases a; rfl

/-- The point whose block holds row `b`. -/
def pt (b : Fin 16384) : Fin cfg0.N := ⟨b.val / 2048, by have h : cfg0.N = 8 := N_0; omega⟩

/-- The row's place in its block. -/
def pl (b : Fin 16384) : Fin 2048 := ⟨b.val % 2048, by omega⟩

theorem index4 : ∀ t : Fin cfg0.N, (cfg0.win 4).index t 0 = t.val := by decide +kernel
theorem index3 : ∀ t : Fin cfg0.N, (cfg0.win 3).index t 0 = t.val := by decide +kernel
theorem index2 : ∀ t : Fin cfg0.N, (cfg0.win 2).index t 0 = t.val := by decide +kernel
theorem index1 : ∀ t : Fin cfg0.N, (cfg0.win 1).index t 0 = t.val ∧ (cfg0.win 1).index t 1 = 0 := by decide +kernel
theorem index0 : ∀ t : Fin cfg0.N, (cfg0.win 0).index t 0 = t.val ∧ (cfg0.win 0).index t 1 = 0 := by decide +kernel

/-- The classes' block at the row's place is the class of the row, -/
theorem class_at (b : Fin 16384) : iblk m co 2 (pt b) (ix1 (pl b)) = m ((co.tc : Thread nD τ).loc main_arg1) (ix1 b) := by
  have h := index2 (pt b)
  have e : (pt b).val = b.val / 2048 := rfl
  have e' : (pl b).val = b.val % 2048 := rfl
  blk_ext [iblk, V, h, e, e']

/-- the times' block the time, -/
theorem time_at (b : Fin 16384) : iblk m co 3 (pt b) (ix1 (pl b)) = m ((co.tc : Thread nD τ).loc main_arg2) (ix1 b) := by
  have h := index3 (pt b)
  have e : (pt b).val = b.val / 2048 := rfl
  have e' : (pl b).val = b.val % 2048 := rfl
  blk_ext [iblk, V, h, e, e']

/-- the scores' block the scores, -/
theorem logit_at (b : Fin 16384) (c : Fin 104) :
    iblk m co 0 (pt b) (ix2 (pl b) c) = m ((co.tc : Thread nD τ).loc main_arg0) (ix2 b c) := by
  have h := (index0 (pt b)).1
  have h' := (index0 (pt b)).2
  have e : (pt b).val = b.val / 2048 := rfl
  have e' : (pl b).val = b.val % 2048 := rfl
  blk_ext [iblk, V, h, h', e, e']

/-- and the draws' block the draws. -/
theorem noise_at (b : Fin 16384) (c : Fin 104) :
    iblk m co 1 (pt b) (ix2 (pl b) c) = m ((co.tc : Thread nD τ).loc main_arg3) (ix2 b c) := by
  have h := (index1 (pt b)).1
  have h' := (index1 (pt b)).2
  have e : (pt b).val = b.val / 2048 := rfl
  have e' : (pl b).val = b.val % 2048 := rfl
  blk_ext [iblk, V, h, h', e, e']

/-- The result array at row `b`. -/
theorem out_at (b : Fin 16384) : (dats m 0 co).arrAt 4 cfg0.N (ix1 b)
    = k0_pay3 (F := Ideal) (iblk m co 0 (pt b)) (iblk m co 1 (pt b)) (k0_pay1 (iblk m co 2 (pt b)) (iblk m co 3 (pt b))) k0_pay2 (ix1 (pl b)) := by
  have h := congrFun (Value.blocks4 m co (pt b) (flush0_4 _)) (ix1 (pl b))
  rw [Value.flushed4] at h
  unfold out0_4 at h
  rw [View.canon_unit_zero hz1, View.ld_unit_zero hz, View.ld_unit_zero hz, View.ld_unit_zero hz1, View.ld_unit_zero hz1] at h
  refine Eq.trans ?_ h
  have h := index4 (pt b)
  have e : (pt b).val = b.val / 2048 := rfl
  have e' : (pl b).val = b.val % 2048 := rfl
  symm
  blk_ext [h, e, e']

end Cert.KernelBlocks

end
-- ==== Proof.Agree.lean ====
/- The two results at a row: where the mask is set, the kernel's result and the reference's are the one class of the
   largest score. -/
module

public import proofs.«01_k».proof.Proof.Pick
public import proofs.«01_k».proof.Proof.RefRow
public import proofs.«01_k».proof.Proof.PreRead
public import proofs.«01_k».proof.Proof.MaskRow
public import proofs.«01_k».proof.Proof.KernelBlocks

@[expose] public section

set_option maxRecDepth 16384

noncomputable section

namespace Cert.Agree

open Idealize.ShloMosaic Idealize.ShloMosaic.TcCoe Cert.Consts
open Cert.KernelIdeal

variable (l u : FVec Ideal S16384x104 .f32) (x t : IVec S16384 32) (T Q : FVec Ideal ⟨3, ![1001, 104, 104]⟩ .f32)

/-- The precondition on the argument arrays. -/
def Drawn : Prop := (Cert.Pre_drawn.fn (F := Ideal) l x t u T Q).1 = (fun _ => 1#1) ∧ (Cert.Pre_drawn.fn (F := Ideal) l x t u T Q).2.1 = (fun _ => 1#1)
  ∧ (Cert.Pre_drawn.fn (F := Ideal) l x t u T Q).2.2 = (fun _ => 1#1)

/-- What is known of a row where the mask is set. -/
theorem row (hp : Drawn l u x t T Q) (b : Fin 16384) (h : Cert.On_untied.fn (F := Ideal) l x t u T Q (ix1 b) = 1#1) :
    ∃ (xn tn : ℕ) (e : Fin 104 → ℝ) (k : Fin 104), xn < 104 ∧ 2 ≤ tn ∧ tn ≤ 1000 ∧ x (ix1 b) = BitVec.ofNat 32 xn
      ∧ t (ix1 b) = BitVec.ofNat 32 tn ∧ (∀ c, u (ix2 b c) ≤ 1) ∧ (∀ c, 0 ≤ e c) ∧ 0 < ∑ c, e c
      ∧ (∀ c, Ideal.exp (l (ix2 b c)) = ((e c : ℝ) : EReal)) ∧ (∀ c, RefRun.soft l (ix2 b c) = ((e c / ∑ c, e c : ℝ) : EReal))
      ∧ Pick.Best (Row.Y (fun c => e c / ∑ c, e c) xn tn fun c => u (ix2 b c)) k := by
  obtain ⟨⟨xn, hx, ex⟩, tn, h2, ht, et⟩ := PreRead.ranges l x t u T Q b hp.1
  obtain ⟨e, h0, hs, he, hd⟩ := Soft.soft (fun c => l (ix2 b c)) (PreRead.finite l x t u T Q b hp.2.2)
  have hl : ∀ c, RefRun.soft l (ix2 b c) = ((e c / ∑ c, e c : ℝ) : EReal) := fun c => (Reduces.soft_at l b c).trans (hd c)
  obtain ⟨k, hk⟩ := MaskRow.best l u x t T Q b xn tn hx h2 ht ex et (fun c => e c / ∑ c, e c) (fun c => div_nonneg (h0 c) hs.le) hl h
  exact ⟨xn, tn, e, k, hx, h2, ht, ex, et, fun c => PreRead.noise l x t u T Q b c hp.2.1, h0, hs, he, hl, hk⟩

variable (m : (ℓ : Loc nD τ sig) → Buf (Elt Ideal) ℓ) (co : Dev nD)

/-- The kernel's array and the reference's at a row where the mask is set. -/
theorem agree (m' : (ℓ : Loc Cert.ReferenceIdeal.nD Cert.ReferenceIdeal.τ Cert.ReferenceIdeal.sig) → Buf (Elt Ideal) ℓ) (co' : Dev Cert.ReferenceIdeal.nD)
    (hp : Drawn (m ((co.tc : Thread nD τ).loc main_arg0)) (m ((co.tc : Thread nD τ).loc main_arg3)) (m ((co.tc : Thread nD τ).loc main_arg1))
      (m ((co.tc : Thread nD τ).loc main_arg2)) T Q) (b : Fin 16384)
    (h : Cert.On_untied.fn (F := Ideal) (m ((co.tc : Thread nD τ).loc main_arg0)) (m ((co.tc : Thread nD τ).loc main_arg1))
      (m ((co.tc : Thread nD τ).loc main_arg2)) (m ((co.tc : Thread nD τ).loc main_arg3)) T Q (ix1 b) = 1#1) :
    (Gen.dats m 0 co).arrAt 4 cfg0.N (ix1 b)
      = RefRun.argmax (RefRun.score RefRun.stack (RefRun.table m' co') (m ((co.tc : Thread nD τ).loc main_arg0)) (m ((co.tc : Thread nD τ).loc main_arg1))
        (m ((co.tc : Thread nD τ).loc main_arg2)) (m ((co.tc : Thread nD τ).loc main_arg3))) (ix1 b) := by
  obtain ⟨xn, tn, e, k, hx, h2, ht, ex, et, hu, h0, hs, he, hl, hk⟩ := row _ _ _ _ T Q hp b h
  have hsum : ∑ c, e c / ∑ c, e c = 1 := by rw [← Finset.sum_div, div_self hs.ne']
  have hK : (Gen.dats m 0 co).arrAt 4 cfg0.N (ix1 b) = BitVec.ofNat 32 k.val := by
    refine (KernelBlocks.out_at m co b).trans (KernelScore.pay_best _ _ _ xn tn _ _ hx h2 ht ((KernelBlocks.class_at m co b).trans ex)
      ((KernelBlocks.time_at m co b).trans et) (fun c => ?_) e h0 hs (fun c => ?_) k ?_)
    · rw [KernelBlocks.noise_at]; exact hu c
    · rw [KernelBlocks.logit_at]; exact he c
    · rw [funext (KernelBlocks.noise_at m co b)]; exact hk
  have hR := RefRow.score_at (m ((co.tc : Thread nD τ).loc main_arg0)) (m ((co.tc : Thread nD τ).loc main_arg3)) (m ((co.tc : Thread nD τ).loc main_arg1))
    (m ((co.tc : Thread nD τ).loc main_arg2)) b xn tn (RefRun.table m' co') (Tables.table_at m' co') hx h2 ht ex et _
    (fun c => div_nonneg (h0 c) hs.le) hsum hl
  refine hK.trans (Pick.argmax_best _ b (k := k) ?_ ?_).symm
  · rw [funext hR]; exact hk
  · rw [hR]
    unfold Row.Y
    rw [Ne, EReal.add_eq_bot_iff]
    exact fun h => h.elim (EReal.coe_ne_bot _) (Row.G_ne_bot _)

end Cert.Agree

end
-- ==== Proof.lean ====
/- The certificate of the kernel: the programs' facts, the frames, the named constants and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.On_untied
public import proofs.«01_k».proof.Proof.Gen.KernelIdeal.Value
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and its semaphores at zero. -/
theorem frame_reference : Cert.quiescent_ReferenceIdeal := fun m g _ => (θ_run Cert.ReferenceIdeal.defs _ _).mono
  (fun r h => ⟨fun c => (h c).2, Idealize.ShloMosaic.sem_eq_zero_of_no_sems (by decide) r.2⟩) (Cert.RefRun.run (F := Ideal) m g)

/-- The two named constants are those the kernel's words stand for. -/
theorem preserves : Cert.preserves_Kernel_KernelIdeal :=
  ⟨IdealRules.named_const.statement _ "inv_steps" .f32 _ _ rfl, IdealRules.named_const.statement _ "inv_eps" .f32 _ _ rfl⟩

/-- On the rows the mask keeps, the kernel's class is the reference's. -/
theorem algebraic : Cert.algebraic_KernelIdeal_ReferenceIdeal_on_untied_pre_drawn := by
  intro m g m' g' hpre hagree
  refine ⟨fun c => (Cert.KernelIdeal.Gen.dats m 0 c).arrAt 4 Cert.KernelIdeal.cfg0.N, ?_, ?_⟩
  · exact (θ_run Cert.KernelIdeal.defs _ _).mono (fun _ h c => ⟨fun i _ => congrFun (h c).1 i, (h c).2⟩)
      (Cert.KernelIdeal.Value.run_blocks (F := Ideal) m g)
  refine (θ_run Cert.ReferenceIdeal.defs _ _).mono (fun _ h c => ⟨fun i hi => ?_, (h c).2⟩) (Cert.RefRun.run (F := Ideal) m' g')
  obtain ⟨b, rfl⟩ : ∃ b : Fin 16384, i = ix1 b := ⟨i 0, funext fun a => by fin_cases a; rfl⟩
  refine (congrFun (h c).1 (ix1 b)).trans ?_
  rw [(hagree c).1, (hagree c).2.1, (hagree c).2.2.1, (hagree c).2.2.2.1]
  exact (Cert.Agree.agree _ _ m c m' c (hpre c) b hi).symm

/-- Everything claimed. -/
theorem claim : Cert.Claim := ⟨Cert.Kernel.Gen.facts, Cert.KernelIdeal.Gen.facts, Cert.ReferenceIdeal.Gen.facts, Cert.Pre_drawn.Gen.facts, Cert.On_untied.Gen.facts,
  fun m g _ => Cert.Kernel.Gen.frame m g, fun m g _ => Cert.KernelIdeal.Gen.frame m g, fun m g _ => Cert.KernelIdeal.Gen.frame m g,
  frame_reference, fun m g _ => frame_reference m g trivial, preserves, algebraic⟩

end Cert.Proof

end
